-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x21x512x512 .f32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 32 := constantI S_ 32 21#32
  let main_v2 : IVec S8x512x512 32 := broadcastInDim S8x512x512 ![] bcast_S_S8x512x512 main_c_0
  let main_v3 : IVec S8x512x512 1 := cmpi .slt main_arg1 main_v2
  let main_v4 : IVec S8x512x512 1 := andi main_v1 main_v3
  let main_c_1 : IVec S_ 1 := constantI S_ 1 1#1
  let main_v5 : IVec S_ 1 := (fun x v => Host.reduce IntOp.andi x v reducesTo_S8x512x512_S_d0_1_2 h_S_) main_v4 main_c_1
  main_v5
-- ==== Kernel.lean ====
abbrev S8x21x512x512 : Shape := ⟨4, ![8, 21, 512, 512]⟩
abbrev S8x512x512 : Shape := ⟨3, ![8, 512, 512]⟩
abbrev S1x32 : Shape := ⟨2, ![1, 32]⟩
abbrev S1x21x256x512 : Shape := ⟨4, ![1, 21, 256, 512]⟩
abbrev S1x256x512 : Shape := ⟨3, ![1, 256, 512]⟩
abbrev S3x21x16x512 : Shape := ⟨4, ![3, 21, 16, 512]⟩
abbrev S16x16x512 : Shape := ⟨3, ![16, 16, 512]⟩
abbrev S1x1x16x512 : Shape := ⟨4, ![1, 1, 16, 512]⟩
abbrev S16x512 : Shape := ⟨2, ![16, 512]⟩
abbrev S1x16x512 : Shape := ⟨3, ![1, 16, 512]⟩
abbrev S1 : Shape := ⟨1, ![1]⟩
abbrev S1x1x1 : Shape := ⟨3, ![1, 1, 1]⟩
abbrev S1x1 : Shape := ⟨2, ![1, 1]⟩
abbrev S1x21 : Shape := ⟨2, ![1, 21]⟩
abbrev S21 : Shape := ⟨1, ![21]⟩

abbrev nBuf : Space → Nat
  | .hbm => 5
  | .vmem => 7
  | .smem => 1
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S1x32, .f32⟩
  | .hbm, ⟨3, _⟩ => ⟨S1x21, .f32⟩
  | .hbm, ⟨4, _⟩ => ⟨S21, .f32⟩
  | .local _ .vmem, ⟨0, _⟩ => ⟨S1x21x256x512, .f32⟩
  | .local _ .vmem, ⟨1, _⟩ => ⟨S1x21x256x512, .f32⟩
  | .local _ .vmem, ⟨2, _⟩ => ⟨S1x256x512, .i32⟩
  | .local _ .vmem, ⟨3, _⟩ => ⟨S1x256x512, .i32⟩
  | .local _ .vmem, ⟨4, _⟩ => ⟨S3x21x16x512, .i16⟩
  | .local _ .vmem, ⟨5, _⟩ => ⟨S16x16x512, .i16⟩
  | .local _ .vmem, ⟨6, _⟩ => ⟨S16x16x512, .i16⟩
  | .local _ .smem, ⟨0, _⟩ => ⟨S1x32, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c7_i32_6286 : BitVec 32 := 7#32
  let v8480 : BitVec 1 := Scalar.cmpi .eq arg0 c7_i32_6286
  let arg1 : BitVec 32 := BitVec.ofNat 32 (i 1).val
  let c1_i32_6287 : BitVec 32 := 1#32
  let v8481 : BitVec 1 := Scalar.cmpi .eq arg1 c1_i32_6287
  let v8482 : BitVec 1 := Scalar.andi v8480 v8481
  let v8483 : BitVec 32 := Scalar.extui v8482
  let c0_i32_6288 : BitVec 32 := 0#32
  let v8484 : BitVec 1 := Scalar.cmpi .ne v8483 c0_i32_6288
  v8484

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x21x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S2097152 : Shape := ⟨1, ![2097152]⟩
abbrev S22 : Shape := ⟨1, ![22]⟩
abbrev S2097152x1 : Shape := ⟨2, ![2097152, 1]⟩
abbrev S21 : Shape := ⟨1, ![21]⟩

abbrev nBuf : Space → Nat
  | .hbm => 121
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x21x512x512, .i32⟩
  | .hbm, ⟨3, _⟩ => ⟨S_, .f32⟩
  | .hbm, ⟨4, _⟩ => ⟨S_, .i32⟩
  | .hbm, ⟨5, _⟩ => ⟨S8x512x512, .f32⟩
  | .hbm, ⟨6, _⟩ => ⟨S8x512x512, .i32⟩
  | .hbm, ⟨7, _⟩ => ⟨S_, .i32⟩
  | .hbm, ⟨8, _⟩ => ⟨S8x512x512, .i32⟩
  | .hbm, ⟨9, _⟩ => ⟨S8x512x512, .i32⟩
  | .hbm, ⟨10, _⟩ => ⟨S_, .i32⟩
  | .hbm, ⟨11, _⟩ => ⟨S8x512x512, .i32⟩
  | .hbm, ⟨12, _⟩ => ⟨S8x512x512, .i32⟩
  | .hbm, ⟨13, _⟩ => ⟨S_, .i32⟩
  | .hbm, ⟨14, _⟩ => ⟨S8x512x512, .i32⟩
  | .hbm, ⟨15, _⟩ => ⟨S8x512x512, .i1⟩
  | .hbm, ⟨16, _⟩ => ⟨S8x512x512, .i32⟩
  | .hbm, ⟨17, _⟩ => ⟨S8x512x512, .i32⟩
  | .hbm, ⟨18, _⟩ => ⟨S8x512x512, .i1⟩
  | .hbm, ⟨19, _⟩ => ⟨S8x512x512, .i32⟩
  | .hbm, ⟨20, _⟩ => ⟨S8x512x512, .i32⟩
  | .hbm, ⟨21, _⟩ => ⟨S2097152, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2097152, .i32⟩
  | .hbm, ⟨26, _⟩ => ⟨S2097152, .i32⟩
  | .hbm, ⟨27, _⟩ => ⟨S_, .i32⟩
  | .hbm, ⟨28, _⟩ => ⟨S2097152, .i32⟩
  | .hbm, ⟨29, _⟩ => ⟨S2097152, .i32⟩
  | .hbm, ⟨30, _⟩ => ⟨S_, .i32⟩
  | .hbm, ⟨31, _⟩ => ⟨S22, .i32⟩
  | .hbm, ⟨32, _⟩ => ⟨S_, .i32⟩
  | .hbm, ⟨33, _⟩ => ⟨S_, .i32⟩
  | .hbm, ⟨34, _⟩ => ⟨S2097152, .i32⟩
  | .hbm, ⟨35, _⟩ => ⟨S2097152, .i32⟩
  | .hbm, ⟨36, _⟩ => ⟨S_, .i32⟩
  | .hbm, ⟨37, _⟩ => ⟨S2097152, .i32⟩
  | .hbm, ⟨38, _⟩ => ⟨S2097152, .i1⟩
  | .hbm, ⟨39, _⟩ => ⟨S_, .i32⟩
  | .hbm, ⟨40, _⟩ => ⟨S2097152, .i32⟩
  | .hbm, ⟨41, _⟩ => ⟨S2097152, .i32⟩
  | .hbm, ⟨42, _⟩ => ⟨S2097152, .i32⟩
  | .hbm, ⟨43, _⟩ => ⟨S2097152x1, .i32⟩
  | .hbm, ⟨44, _⟩ => ⟨S_, .i32⟩
  | .hbm, ⟨45, _⟩ => ⟨S2097152, .i32⟩
  | .hbm, ⟨46, _⟩ => ⟨S22, .i32⟩
  | .hbm, ⟨47, _⟩ => ⟨S21, .i32⟩
  | .hbm, ⟨48, _⟩ => ⟨S21, .f32⟩
  | .hbm, ⟨49, _⟩ => ⟨S2097152, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S2097152, .i32⟩
  | .hbm, ⟨54, _⟩ => ⟨S2097152, .i32⟩
  | .hbm, ⟨55, _⟩ => ⟨S_, .i32⟩
  | .hbm, ⟨56, _⟩ => ⟨S2097152, .i32⟩
  | .hbm, ⟨57, _⟩ => ⟨S2097152, .i32⟩
  | .hbm, ⟨58, _⟩ => ⟨S_, .i32⟩
  | .hbm, ⟨59, _⟩ => ⟨S22, .i32⟩
  | .hbm, ⟨60, _⟩ => ⟨S_, .i32⟩
  | .hbm, ⟨61, _⟩ => ⟨S_, .i32⟩
  | .hbm, ⟨62, _⟩ => ⟨S2097152, .i32⟩
  | .hbm, ⟨63, _⟩ => ⟨S2097152, .i32⟩
  | .hbm, ⟨64, _⟩ => ⟨S_, .i32⟩
  | .hbm, ⟨65, _⟩ => ⟨S2097152, .i32⟩
  | .hbm, ⟨66, _⟩ => ⟨S2097152, .i1⟩
  | .hbm, ⟨67, _⟩ => ⟨S_, .i32⟩
  | .hbm, ⟨68, _⟩ => ⟨S2097152, .i32⟩
  | .hbm, ⟨69, _⟩ => ⟨S2097152, .i32⟩
  | .hbm, ⟨70, _⟩ => ⟨S2097152, .i32⟩
  | .hbm, ⟨71, _⟩ => ⟨S2097152x1, .i32⟩
  | .hbm, ⟨72, _⟩ => ⟨S_, .i32⟩
  | .hbm, ⟨73, _⟩ => ⟨S2097152, .i32⟩
  | .hbm, ⟨74, _⟩ => ⟨S22, .i32⟩
  | .hbm, ⟨75, _⟩ => ⟨S21, .i32⟩
  | .hbm, ⟨76, _⟩ => ⟨S21, .f32⟩
  | .hbm, ⟨77, _⟩ => ⟨S2097152, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S2097152, .i32⟩
  | .hbm, ⟨82, _⟩ => ⟨S2097152, .i32⟩
  | .hbm, ⟨83, _⟩ => ⟨S_, .i32⟩
  | .hbm, ⟨84, _⟩ => ⟨S2097152, .i32⟩
  | .hbm, ⟨85, _⟩ => ⟨S2097152, .i32⟩
  | .hbm, ⟨86, _⟩ => ⟨S_, .i32⟩
  | .hbm, ⟨87, _⟩ => ⟨S22, .i32⟩
  | .hbm, ⟨88, _⟩ => ⟨S_, .i32⟩
  | .hbm, ⟨89, _⟩ => ⟨S_, .i32⟩
  | .hbm, ⟨90, _⟩ => ⟨S2097152, .i32⟩
  | .hbm, ⟨91, _⟩ => ⟨S2097152, .i32⟩
  | .hbm, ⟨92, _⟩ => ⟨S_, .i32⟩
  | .hbm, ⟨93, _⟩ => ⟨S2097152, .i32⟩
  | .hbm, ⟨94, _⟩ => ⟨S2097152, .i1⟩
  | .hbm, ⟨95, _⟩ => ⟨S_, .i32⟩
  | .hbm, ⟨96, _⟩ => ⟨S2097152, .i32⟩
  | .hbm, ⟨97, _⟩ => ⟨S2097152, .i32⟩
  | .hbm, ⟨98, _⟩ => ⟨S2097152, .i32⟩
  | .hbm, ⟨99, _⟩ => ⟨S2097152x1, .i32⟩
  | .hbm, ⟨100, _⟩ => ⟨S_, .i32⟩
  | .hbm, ⟨101, _⟩ => ⟨S2097152, .i32⟩
  | .hbm, ⟨102, _⟩ => ⟨S22, .i32⟩
  | .hbm, ⟨103, _⟩ => ⟨S21, .i32⟩
  | .hbm, ⟨104, _⟩ => ⟨S21, .f32⟩
  | .hbm, ⟨105, _⟩ => ⟨S21, .f32⟩
  | .hbm, ⟨106, _⟩ => ⟨S21, .f32⟩
  | .hbm, ⟨107, _⟩ => ⟨S_, .f32⟩
  | .hbm, ⟨108, _⟩ => ⟨S21, .f32⟩
  | .hbm, ⟨109, _⟩ => ⟨S21, .f32⟩
  | .hbm, ⟨110, _⟩ => ⟨S_, .f32⟩
  | .hbm, ⟨111, _⟩ => ⟨S21, .f32⟩
  | .hbm, ⟨112, _⟩ => ⟨S21, .f32⟩
  | .hbm, ⟨113, _⟩ => ⟨S21, .f32⟩
  | .hbm, ⟨114, _⟩ => ⟨S_, .f32⟩
  | .hbm, ⟨115, _⟩ => ⟨S21, .f32⟩
  | .hbm, ⟨116, _⟩ => ⟨S21, .f32⟩
  | .hbm, ⟨117, _⟩ => ⟨S_, .f32⟩
  | .hbm, ⟨118, _⟩ => ⟨S21, .f32⟩
  | .hbm, ⟨119, _⟩ => ⟨S21, .f32⟩
  | .hbm, ⟨120, _⟩ => ⟨S21, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_v15 : Ref sig .tc := ⟨.hbm, 35, rfl⟩
abbrev main_c_6 : Ref sig .tc := ⟨.hbm, 36, rfl⟩
abbrev main_v16 : Ref sig .tc := ⟨.hbm, 37, rfl⟩
abbrev main_v17 : Ref sig .tc := ⟨.hbm, 38, rfl⟩
abbrev main_c_7 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_9 : Ref sig .tc := ⟨.hbm, 50, rfl⟩
abbrev main_c_10 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v27 : Ref sig .tc := ⟨.hbm, 57, rfl⟩
abbrev main_c_11 : Ref sig .tc := ⟨.hbm, 58, rfl⟩
abbrev main_v28 : Ref sig .tc := ⟨.hbm, 59, rfl⟩
abbrev main_c_12 : Ref sig .tc := ⟨.hbm, 60, rfl⟩
abbrev main_call4_v0 : Ref sig .tc := ⟨.hbm, 61, rfl⟩
abbrev main_call4_v1 : Ref sig .tc := ⟨.hbm, 62, rfl⟩
abbrev main_v29 : Ref sig .tc := ⟨.hbm, 63, rfl⟩
abbrev main_c_13 : Ref sig .tc := ⟨.hbm, 64, rfl⟩
abbrev main_v30 : Ref sig .tc := ⟨.hbm, 65, rfl⟩
abbrev main_v31 : Ref sig .tc := ⟨.hbm, 66, rfl⟩
abbrev main_c_14 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_15 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_16 : Ref sig .tc := ⟨.hbm, 78, rfl⟩
abbrev main_c_17 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v41 : Ref sig .tc := ⟨.hbm, 85, rfl⟩
abbrev main_c_18 : Ref sig .tc := ⟨.hbm, 86, rfl⟩
abbrev main_v42 : Ref sig .tc := ⟨.hbm, 87, rfl⟩
abbrev main_c_19 : Ref sig .tc := ⟨.hbm, 88, rfl⟩
abbrev main_call6_v0 : Ref sig .tc := ⟨.hbm, 89, rfl⟩
abbrev main_call6_v1 : Ref sig .tc := ⟨.hbm, 90, rfl⟩
abbrev main_v43 : Ref sig .tc := ⟨.hbm, 91, rfl⟩
abbrev main_c_20 : Ref sig .tc := ⟨.hbm, 92, rfl⟩
abbrev main_v44 : Ref sig .tc := ⟨.hbm, 93, rfl⟩
abbrev main_v45 : Ref sig .tc := ⟨.hbm, 94, rfl⟩
abbrev main_c_21 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_22 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst : Ref sig .tc := ⟨.hbm, 107, rfl⟩
abbrev main_v56 : Ref sig .tc := ⟨.hbm, 108, rfl⟩
abbrev main_v57 : Ref sig .tc := ⟨.hbm, 109, rfl⟩
abbrev main_cst_23 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_24 : Ref sig .tc := ⟨.hbm, 114, rfl⟩
abbrev main_v61 : Ref sig .tc := ⟨.hbm, 115, rfl⟩
abbrev main_v62 : Ref sig .tc := ⟨.hbm, 116, rfl⟩
abbrev main_cst_25 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩

abbrev nD : Nat := 1
abbrev τ : Topo := Topo.v7x

variable {F : FTy → Type} [FloatOps F]
-- ==== Proof.Spec.lean ====
/- One grid point of the kernel, written as functions of its blocks: the running argmax of one group of rows, the truncated labels, the
   sums over the groups of rows that the point adds to its table of counters, and the scores the last point writes. The vector
   operations are the kernel's own. The class number and the group number are parameters, so that a fact about a class or a group is
   stated once. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Cert.KernelIdeal.Gen Cert.KernelIdeal

variable {F : FTy → Type} [FloatOps F]

/-- The number of classes. -/
abbrev NC : ℕ := 21
/-- The number of groups of sixteen rows in a block. -/
abbrev NK : ℕ := 16

/-! ## The boxes -/

/-- The rows of a group of a class lie in a block of scores. -/
theorem inX (cl : Fin NC) (k : Fin NK) : ∀ a, (![0, cl.val, 16 * k.val, 0] : Fin 4 → ℕ) a + S1x1x16x512.size a ≤ S1x21x256x512.size a := by
  have h1 : cl.val < 21 := cl.isLt
  have h2 : k.val < 16 := k.isLt
  intro a
  fin_cases a <;> simp [S1x1x16x512, S1x21x256x512] <;> omega

/-- The rows of a group lie in a block of labels. -/
theorem inT (k : Fin NK) : ∀ a, (![0, 16 * k.val, 0] : Fin 3 → ℕ) a + S1x16x512.size a ≤ S1x256x512.size a := by
  have h2 : k.val < 16 := k.isLt
  intro a
  fin_cases a <;> simp [S1x16x512, S1x256x512] <;> omega

/-- The plane of a group lies in its scratch. -/
theorem inI (k : Fin NK) : ∀ a, (![k.val, 0, 0] : Fin 3 → ℕ) a + S1x16x512.size a ≤ S16x16x512.size a := by
  have h2 : k.val < 16 := k.isLt
  intro a
  fin_cases a <;> simp [S1x16x512, S16x16x512] <;> omega

/-- The plane of a counter and a class lies in the table of counters. -/
theorem inA (q : Fin 3) (cl : Fin NC) : ∀ a, (![q.val, cl.val, 0, 0] : Fin 4 → ℕ) a + S1x1x16x512.size a ≤ S3x21x16x512.size a := by
  have h1 : cl.val < 21 := cl.isLt
  have h2 := q.isLt
  intro a
  fin_cases a <;> simp [S1x1x16x512, S3x21x16x512] <;> omega

/-- The cell of a class lies in the output row. -/
theorem inO (cl : Fin 32) : ∀ a, (![0, cl.val] : Fin 2 → ℕ) a + S1x1.size a ≤ S1x32.size a := by
  have h1 := cl.isLt
  intro a
  fin_cases a <;> simp [S1x1, S1x32] <;> omega

/-- The rows of group `k` of class `cl` in a block of scores. -/
abbrev boxX (cl : Fin NC) (k : Fin NK) : Rect S1x21x256x512 := Rect.unit ![0, cl.val, 16 * k.val, 0] S1x1x16x512.size (inX cl k)
/-- The rows of group `k` in a block of labels. -/
abbrev boxT (k : Fin NK) : Rect S1x256x512 := Rect.unit ![0, 16 * k.val, 0] S1x16x512.size (inT k)
/-- Plane `k` of a scratch that holds one plane per group. -/
abbrev boxI (k : Fin NK) : Rect S16x16x512 := Rect.unit ![k.val, 0, 0] S1x16x512.size (inI k)
/-- Plane `(q, cl)` of the table of counters. -/
abbrev boxA (q : Fin 3) (cl : Fin NC) : Rect S3x21x16x512 := Rect.unit ![q.val, cl.val, 0, 0] S1x1x16x512.size (inA q cl)
/-- Cell `cl` of the output row. -/
abbrev boxO (cl : Fin 32) : Rect S1x32 := Rect.unit ![0, cl.val] S1x1.size (inO cl)

/-! ## The vector operations -/

/-- One class of the running argmax: where the class's score is the greater, it and its number replace the best so far. -/
def scanStep (best : FVec F S16x512 .f32) (idx : IVec S16x512 32) (xc : FVec F S16x512 .f32) (n : BitVec 32) : FVec F S16x512 .f32 × IVec S16x512 32 :=
  (select (cmpf .ogt xc best) xc best, select (cmpf .ogt xc best) (broadcast S16x512 n) idx)

/-- The running argmax after classes `0 … n` of one group of rows: the best score and its class. -/
def scan (x : Fin NC → Vec F S1x1x16x512 .f32) : (n : ℕ) → n < NC → FVec F S16x512 .f32 × IVec S16x512 32
  | 0, h => (shapeCast S16x512 (x ⟨0, h⟩) shapeCasts_S1x1x16x512_S16x512, broadcast S16x512 0#32)
  | n + 1, h =>
    scanStep (scan x n (Nat.lt_of_succ_lt h)).1 (scan x n (Nat.lt_of_succ_lt h)).2
      (shapeCast S16x512 (x ⟨n + 1, h⟩) shapeCasts_S1x1x16x512_S16x512) (BitVec.ofNat 32 (n + 1))

/-- The plane of class numbers stored for one group of rows. -/
def idxPlane (x : Fin NC → Vec F S1x1x16x512 .f32) : IVec S1x16x512 16 :=
  shapeCast S1x16x512 (trunci 16 (scan x 20 (by decide)).2 natLt_16_32) shapeCasts_S16x512_S1x16x512

/-- The plane of labels stored for one group of rows. -/
def labPlane (t : Vec F S1x16x512 .i32) : IVec S1x16x512 16 :=
  shapeCast S1x16x512 (trunci 16 (shapeCast S16x512 t shapeCasts_S1x16x512_S16x512) natLt_16_32) shapeCasts_S16x512_S1x16x512

/-- One where the plane holds the class number, zero elsewhere. -/
def hit (cl : BitVec 16) (p : Vec F S1x16x512 .i16) : IVec S16x512 16 :=
  select (cmpi .eq (shapeCast S16x512 p shapeCasts_S1x16x512_S16x512) (broadcast S16x512 cl)) (broadcast S16x512 1#16) (broadcast S16x512 0#16)

/-- What a group of rows adds to counter `q`: the predicted class, the label, or both. -/
def term (q : Fin 3) (cl : BitVec 16) (i t : Vec F S1x16x512 .i16) : IVec S16x512 16 :=
  match q with
  | 0 => hit (F := F) cl i
  | 1 => hit (F := F) cl t
  | 2 => muli (hit (F := F) cl i) (hit (F := F) cl t)

/-- A counter plane after the first `n` groups of rows. -/
def accum (old : Vec F S1x1x16x512 .i16) (f : Fin NK → IVec S16x512 16) : (n : ℕ) → n ≤ NK → IVec S16x512 16
  | 0, _ => shapeCast S16x512 old shapeCasts_S1x1x16x512_S16x512
  | n + 1, h => addi (accum old f n (Nat.le_of_succ_le h)) (f ⟨n, h⟩)

/-- The counter plane the point stores back. -/
def newPlane (old : Vec F S1x1x16x512 .i16) (f : Fin NK → IVec S16x512 16) : IVec S1x1x16x512 16 :=
  shapeCast S1x1x16x512 (accum old f 16 (by decide)) shapeCasts_S16x512_S1x1x16x512

/-- The sum of a counter plane, as a float. -/
def planeSum (p : Vec F S1x1x16x512 .i16) : F .f32 :=
  extractAt ![0, 0, 0] (shapeCast S1x1x1 (multiReduction .add [1, 2] S1
    (shapeCast S1x16x512 (sitofp .f32 (shapeCast S16x512 p shapeCasts_S1x1x16x512_S16x512)) shapeCasts_S16x512_S1x16x512 : FVec F S1x16x512 .f32)
    0x00000000#32 reduces_S1x16x512_S1 (.inl rfl) rfl) shapeCasts_S1_S1x1x1) inpos_S1x1x1_p0_0_0

/-- The score of a class from the sums of its three counter planes. -/
def score (p l i : F .f32) : F .f32 :=
  Scalar.divf (Scalar.mulf (Scalar.ofBits .f32 0x40000000#32) (Scalar.divf i (Scalar.addf (Scalar.ofBits .f32 0x25800000#32) (Scalar.subf (Scalar.addf p l) i))))
    (Scalar.addf (Scalar.divf i (Scalar.addf (Scalar.ofBits .f32 0x25800000#32) (Scalar.subf (Scalar.addf p l) i))) (Scalar.ofBits .f32 0x3F800000#32))

/-! ## The stores -/

/-- The stores of the first `n` groups into a scratch that holds one plane per group, last first. -/
def planes (p : Fin NK → IVec S1x16x512 16) : (n : ℕ) → n ≤ NK → List (View.Piece (Elt F) S16x16x512 .i16)
  | 0, _ => []
  | n + 1, h => ⟨boxI ⟨n, h⟩, p ⟨n, h⟩⟩ :: planes p n (Nat.le_of_succ_le h)

/-- The stores into the table of counters after the first `n` classes, last first, over the stores `base`: `old` gives the plane that
    is read back, from the stores before. -/
def stores (base : List (View.Piece (Elt F) S3x21x16x512 .i16))
    (old : List (View.Piece (Elt F) S3x21x16x512 .i16) → Fin 3 → Fin NC → Vec F S1x1x16x512 .i16) (i t : Fin NK → Vec F S1x16x512 .i16) :
    (n : ℕ) → n ≤ NC → List (View.Piece (Elt F) S3x21x16x512 .i16)
  | 0, _ => base
  | n + 1, h =>
    ⟨boxA 2 ⟨n, h⟩, newPlane (F := F) (old (stores base old i t n (Nat.le_of_succ_le h)) 2 ⟨n, h⟩) fun k => term (F := F) 2 (BitVec.ofNat 16 n) (i k) (t k)⟩ ::
    ⟨boxA 1 ⟨n, h⟩, newPlane (F := F) (old (stores base old i t n (Nat.le_of_succ_le h)) 1 ⟨n, h⟩) fun k => term (F := F) 1 (BitVec.ofNat 16 n) (i k) (t k)⟩ ::
    ⟨boxA 0 ⟨n, h⟩, newPlane (F := F) (old (stores base old i t n (Nat.le_of_succ_le h)) 0 ⟨n, h⟩) fun k => term (F := F) 0 (BitVec.ofNat 16 n) (i k) (t k)⟩ ::
    stores base old i t n (Nat.le_of_succ_le h)

/-- The stores into the output row of its first `n` cells, last first: the scores of the classes, then zeros. -/
def cells (plane : Fin 3 → Fin NC → Vec F S1x1x16x512 .i16) : (n : ℕ) → n ≤ 32 → List (View.Piece (Elt F) S1x32 .f32)
  | 0, _ => []
  | n + 1, h =>
    ⟨boxO ⟨n, h⟩, fun _ => if hn : n < NC then score (planeSum (plane 0 ⟨n, hn⟩)) (planeSum (plane 1 ⟨n, hn⟩)) (planeSum (plane 2 ⟨n, hn⟩))
      else Scalar.ofBits .f32 0x00000000#32⟩ :: cells plane n (Nat.le_of_succ_le h)

end Cert.KernelIdeal.Val
-- ==== Proof.Found.lean ====
/- What a grid point of the kernel leaves, in each of its three cases (the first point, a middle one, the last), as the stores of
   Spec.lean. -/
module

public import proofs.«01_k».proof.Proof.Spec

@[expose] public section

set_option maxRecDepth 65536

noncomputable section

namespace Cert.KernelIdeal.Val

open Idealize.ShloMosaic Idealize.ShloMosaic.TcCoe Idealize.ShloMosaic.Tactic
open Cert.KernelIdeal.Gen Cert.KernelIdeal

variable {F : FTy → Type} [FloatOps F]

variable (c : Dev nD) (i : grid0.Coords) (arg2 : Memref sig .tc .vmem S1x21x256x512 .f32) (harg2 : arg2.IsWhole) (arg3 : Memref sig .tc .vmem S1x256x512 .i32) (harg3 : arg3.IsWhole) (arg4 : Memref sig .tc .smem S1x32 .f32) (harg4 : arg4.IsWhole) (arg5 : Memref sig .tc .vmem S3x21x16x512 .i16) (harg5 : arg5.IsWhole) (arg6 : Memref sig .tc .vmem S16x16x512 .i16) (harg6 : arg6.IsWhole) (arg7 : Memref sig .tc .vmem S16x16x512 .i16) (harg7 : arg7.IsWhole)
  (x0 : Vec F S1x21x256x512 .f32) (x1 : Vec F S1x256x512 .i32) (xs0 : Vec F S3x21x16x512 .i16)

/-- The plane of class numbers of group `k`, as the point stores it. -/
def idxOf (k : Fin NK) : IVec S1x16x512 16 :=
  idxPlane fun cl => View.readAt (Elt F) arg2.view (boxX cl k).toLoadRect (harg2.unread x0)

/-- The plane of labels of group `k`, as the point stores it. -/
def labOf (k : Fin NK) : IVec S1x16x512 16 :=
  labPlane (F := F) (View.readAt (Elt F) arg3.view (boxT k).toLoadRect (harg3.unread x1))

/-- The plane of class numbers of group `k`, as the point reads it back. -/
def idxBack (k : Fin NK) : Vec F S1x16x512 .i16 :=
  arg6.view.readCov (planes (F := F) (idxOf arg2 harg2 x0) 16 (by decide)) (boxI k).toLoadRect

/-- The plane of labels of group `k`, as the point reads it back. -/
def labBack (k : Fin NK) : Vec F S1x16x512 .i16 :=
  arg7.view.readCov (planes (F := F) (labOf arg3 harg3 x1) 16 (by decide)) (boxI k).toLoadRect

/-- The stores into the table of counters at a point that starts from what the point before left. -/
def storesOn (n : ℕ) (h : n ≤ NC) : List (View.Piece (Elt F) S3x21x16x512 .i16) :=
  stores [] (fun _ q cl => View.readAt (Elt F) arg5.view (boxA q cl).toLoadRect (harg5.unread xs0))
    (idxBack arg2 harg2 arg6 x0) (labBack arg3 harg3 arg7 x1) n h

/-- The stores into the table of counters at the first point, which fills it with zeros. -/
def storesFirst (n : ℕ) (h : n ≤ NC) : List (View.Piece (Elt F) S3x21x16x512 .i16) :=
  stores [⟨Rect.unit ![0, 0, 0, 0] S3x21x16x512.size inb_S3x21x16x512_S3x21x16x512_0_0_0_0,
      shapeCast S3x21x16x512 (broadcast S3x21x16x512 0#16) shapeCasts_S3x21x16x512_S3x21x16x512⟩]
    (fun L q cl => arg5.view.readCov L (boxA q cl).toLoadRect)
    (idxBack arg2 harg2 arg6 x0) (labBack arg3 harg3 arg7 x1) n h

/-- A plane of the table of counters, as the last point reads it back after its stores. -/
def planeBack (q : Fin 3) (cl : Fin NC) : Vec F S1x1x16x512 .i16 :=
  arg5.view.readCov (storesOn arg2 harg2 arg3 harg3 arg5 harg5 arg6 arg7 x0 x1 xs0 21 (by decide)) (boxA q cl).toLoadRect

/-- The first point's stores into the table of counters. -/
theorem found_A (hc0 : cond0_0 i) (hc1 : ¬cond0_1 i) :
    (kernelRun0_A c i arg2 harg2 arg3 harg3 arg4 harg4 arg5 harg5 arg6 harg6 arg7 harg7 hc0 hc1 x0 x1).2.1
      = storesFirst arg2 harg2 arg3 harg3 arg5 arg6 arg7 x0 x1 21 (by decide) := by
  sl_kernel_rfl

/-- A middle point's stores into the table of counters. -/
theorem found_B (hc0 : ¬cond0_0 i) (hc1 : ¬cond0_1 i) :
    (kernelRun0_B c i arg2 harg2 arg3 harg3 arg4 harg4 arg5 harg5 arg6 harg6 arg7 harg7 hc0 hc1 x0 x1 xs0).2.1
      = storesOn arg2 harg2 arg3 harg3 arg5 harg5 arg6 arg7 x0 x1 xs0 21 (by decide) := by
  sl_kernel_rfl

/-- The last point's stores into the table of counters. -/
theorem found_C (hc0 : ¬cond0_0 i) (hc1 : cond0_1 i) :
    (kernelRun0_C c i arg2 harg2 arg3 harg3 arg4 harg4 arg5 harg5 arg6 harg6 arg7 harg7 hc0 hc1 x0 x1 xs0).2.1
      = storesOn arg2 harg2 arg3 harg3 arg5 harg5 arg6 arg7 x0 x1 xs0 21 (by decide) := by
  sl_kernel_rfl

/-- The last point's stores into the output row. -/
theorem found_out (hc0 : ¬cond0_0 i) (hc1 : cond0_1 i) :
    (kernelRun0_C c i arg2 harg2 arg3 harg3 arg4 harg4 arg5 harg5 arg6 harg6 arg7 harg7 hc0 hc1 x0 x1 xs0).1
      = cells (planeBack arg2 harg2 arg3 harg3 arg5 harg5 arg6 arg7 x0 x1 xs0) 32 (by decide) := by
  sl_kernel_rfl

end Cert.KernelIdeal.Val
-- ==== Proof.Pixel.lean ====
/- One pixel: the running argmax of its scores, and whether it counts towards a class. -/
module

public import Idealize.ShloMosaic.PureOps.Ideal.Laws

@[expose] public section

noncomputable section

namespace Cert.Dice

/-- The best score among classes `0 … n` and the first class that has it: a later class replaces the best so far where its score is
    greater. -/
def top (s : Fin 21 → EReal) : (n : ℕ) → n < 21 → EReal × ℕ
  | 0, h => (s ⟨0, h⟩, 0)
  | n + 1, h =>
    if (top s n (Nat.lt_of_succ_lt h)).1 < s ⟨n + 1, h⟩ then (s ⟨n + 1, h⟩, n + 1) else top s n (Nat.lt_of_succ_lt h)

/-- The predicted class of a pixel: the first class with the greatest score. -/
def pred (s : Fin 21 → EReal) : ℕ := (top s 20 (by decide)).2

/-- The best class so far is one of those looked at. -/
theorem top_le (s : Fin 21 → EReal) : ∀ (n : ℕ) (h : n < 21), (top s n h).2 ≤ n
  | 0, _ => le_rfl
  | n + 1, h => by
    have ih := top_le s n (Nat.lt_of_succ_lt h)
    rw [top]
    split
    · exact le_rfl
    · exact ih.trans (Nat.le_succ n)

/-- The predicted class is one of the twenty-one. -/
theorem pred_lt (s : Fin 21 → EReal) : pred s < 21 := lt_of_le_of_lt (top_le s 20 (by decide)) (by decide)

/-- Whether a pixel of predicted class `p` and label `t` counts towards class `cl`: as a prediction, as a label, or as both. -/
def counts {α : Type} [DecidableEq α] (q : Fin 3) (cl p t : α) : Bool :=
  match q with
  | 0 => decide (p = cl)
  | 1 => decide (t = cl)
  | 2 => decide (p = cl) && decide (t = cl)

/-- Counting does not depend on how classes are written, so long as different classes are written differently. -/
theorem counts_congr {α β : Type} [DecidableEq α] [DecidableEq β] (q : Fin 3) {cl p t : α} {cl' p' t' : β}
    (hp : p = cl ↔ p' = cl') (ht : t = cl ↔ t' = cl') : counts q cl p t = counts q cl' p' t' := by
  unfold counts
  fin_cases q <;> simp [hp, ht]

end Cert.Dice
-- ==== Proof.Block.lean ====
/- The vector operations of Spec.lean read at one element: a row `r` and a lane `l` of a group of rows. -/
module

public import proofs.«01_k».proof.Proof.Spec
public import proofs.«01_k».proof.Proof.Pixel
public import Idealize.ShloMosaic.PureOps.Ideal.Laws
public import Idealize.ShloMosaic.Lib.ValueLayout
public import Idealize.ShloMosaic.Lib.Pipeline.ReadBack
public import Idealize.ShloMosaic.Lib.Pipeline.ValueKit

@[expose] public section

set_option maxRecDepth 16384

noncomputable section

namespace Cert.KernelIdeal.Val

open Idealize.ShloMosaic hiding ix1 ix2 ix3 ix4
open Idealize.ShloMosaic.TcCoe Idealize.ShloMosaic.Tactic Idealize.ShloMosaic.ValueIdx
open Cert.KernelIdeal.Gen Cert.KernelIdeal Cert.Dice

variable {F : FTy → Type} [FloatOps F]

/-! ## Casts between a plane and the box it is stored in -/

/-- A plane read out of the box it is stored in. -/
theorem cast4_apply {α : Type} (x : S1x1x16x512.Idx → α) (h : S1x1x16x512.ShapeCasts S16x512) (r : Fin 16) (l : Fin 512) :
    shapeCast S16x512 x h (ix2 r l) = x (ix4 0 0 r l) :=
  shapeCast_apply x h _ _ (by
    rw [Shape.rowMajor_val_four, Shape.rowMajor_val_two]
    show ((0 * 1 + 0) * 16 + r.val) * 512 + l.val = r.val * 512 + l.val
    omega)

/-- A plane put into the box it is stored in. -/
theorem uncast4_apply {α : Type} (x : S16x512.Idx → α) (h : S16x512.ShapeCasts S1x1x16x512) (r : Fin 16) (l : Fin 512) :
    shapeCast S1x1x16x512 x h (ix4 0 0 r l) = x (ix2 r l) :=
  shapeCast_apply x h _ _ (by
    rw [Shape.rowMajor_val_four, Shape.rowMajor_val_two]
    show r.val * 512 + l.val = ((0 * 1 + 0) * 16 + r.val) * 512 + l.val
    omega)

/-! ## The counters -/

/-- One counts, zero does not. -/
abbrev bit (b : Bool) : ℕ := if b then 1 else 0

/-- A comparison of a plane of class numbers with a class is one where they are equal, zero elsewhere. -/
theorem hit_apply (cl : BitVec 16) (p : Vec F S1x16x512 .i16) (r : Fin 16) (l : Fin 512) :
    hit (F := F) cl p (ix2 r l) = BitVec.ofNat 16 (bit (decide (p (ix3 0 r l) = cl))) := by
  have e : shapeCast S16x512 p shapeCasts_S1x16x512_S16x512 (ix2 r l) = p (ix3 0 r l) := shapeCast_1ab_ab_apply p _ r l
  show (if IntOp.cmpi .eq (shapeCast S16x512 p shapeCasts_S1x16x512_S16x512 (ix2 r l)) cl = 1#1 then 1#16 else 0#16) = _
  rw [e]
  by_cases h : p (ix3 0 r l) = cl
  · simp [IntOp.cmpi, h, bit]
  · have hb : (p (ix3 0 r l) == cl) = false := beq_false_of_ne h
    simp [IntOp.cmpi, h, hb, bit]

/-- What one group of rows adds to a counter is one where the pixel counts, zero elsewhere. -/
theorem term_apply (q : Fin 3) (cl : BitVec 16) (i t : Vec F S1x16x512 .i16) (r : Fin 16) (l : Fin 512) :
    term (F := F) q cl i t (ix2 r l) = BitVec.ofNat 16 (bit (counts q cl (i (ix3 0 r l)) (t (ix3 0 r l)))) := by
  unfold term counts
  fin_cases q
  · exact hit_apply cl i r l
  · exact hit_apply cl t r l
  · show (hit (F := F) cl i (ix2 r l)) * (hit (F := F) cl t (ix2 r l)) = _
    rw [hit_apply, hit_apply]
    by_cases h : i (ix3 0 r l) = cl <;> by_cases h' : t (ix3 0 r l) = cl <;> simp [h, h', bit]

/-- A plane of counters, after the first `n` groups of rows have been added one by one, holds its old count plus what those groups add. -/
theorem accum_apply (old : Vec F S1x1x16x512 .i16) (f : Fin NK → IVec S16x512 16) (r : Fin 16) (l : Fin 512) (N : ℕ) (g : Fin NK → ℕ)
    (hold : old (ix4 0 0 r l) = BitVec.ofNat 16 N) (hf : ∀ k, f k (ix2 r l) = BitVec.ofNat 16 (g k)) :
    ∀ (n : ℕ) (h : n ≤ NK), accum old f n h (ix2 r l) = BitVec.ofNat 16 (N + ∑ k : Fin n, g (k.castLE h))
  | 0, _ => by
    show shapeCast S16x512 old shapeCasts_S1x1x16x512_S16x512 (ix2 r l) = _
    rw [cast4_apply, hold]
    simp
  | n + 1, h => by
    show accum old f n (Nat.le_of_succ_le h) (ix2 r l) + f ⟨n, h⟩ (ix2 r l) = _
    rw [accum_apply old f r l N g hold hf n, hf, Fin.sum_univ_castSucc, ← BitVec.ofNat_add, Nat.add_assoc]
    rfl

/-- The plane stored back holds, where the old one held `N`, `N` plus the number of the groups that count. -/
theorem newPlane_apply (old : Vec F S1x1x16x512 .i16) (q : Fin 3) (cl : BitVec 16) (i t : Fin NK → Vec F S1x16x512 .i16) (r : Fin 16) (l : Fin 512)
    (N : ℕ) (hold : old (ix4 0 0 r l) = BitVec.ofNat 16 N) :
    newPlane (F := F) old (fun k => term (F := F) q cl (i k) (t k)) (ix4 0 0 r l)
      = BitVec.ofNat 16 (N + ∑ k : Fin NK, bit (counts q cl (i k (ix3 0 r l)) (t k (ix3 0 r l)))) := by
  unfold newPlane
  rw [uncast4_apply, accum_apply old _ r l N _ hold (fun k => term_apply q cl (i k) (t k) r l) 16]
  rfl

/-! ## The running argmax -/

/-- The running argmax after some classes holds, at each pixel, the best score among them and its class. -/
theorem scan_apply (x : Fin NC → Vec Ideal S1x1x16x512 .f32) (r : Fin 16) (l : Fin 512) : ∀ (n : ℕ) (h : n < NC),
    (scan x n h).1 (ix2 r l) = (top (fun cl => x cl (ix4 0 0 r l)) n h).1 ∧
    (scan x n h).2 (ix2 r l) = BitVec.ofNat 32 (top (fun cl => x cl (ix4 0 0 r l)) n h).2
  | 0, h => ⟨cast4_apply _ _ r l, rfl⟩
  | n + 1, h => by
    obtain ⟨e1, e2⟩ := scan_apply x r l n (Nat.lt_of_succ_lt h)
    have e3 := cast4_apply (x ⟨n + 1, h⟩) shapeCasts_S1x1x16x512_S16x512 r l
    rw [top, scan, scanStep]
    simp only [select, cmpf, e1, e2, e3, broadcast]
    simp only [Ideal.cmpf_def, Ideal.cmp]
    by_cases hlt : (top (fun cl => x cl (ix4 0 0 r l)) n (Nat.lt_of_succ_lt h)).1 < x ⟨n + 1, h⟩ (ix4 0 0 r l)
    · simp [hlt, Scalar.select]
    · simp [hlt, Scalar.select]

/-- The plane of class numbers holds the predicted class of each pixel. -/
theorem idxPlane_apply (x : Fin NC → Vec Ideal S1x1x16x512 .f32) (r : Fin 16) (l : Fin 512) :
    idxPlane x (ix3 0 r l) = BitVec.ofNat 16 (pred fun cl => x cl (ix4 0 0 r l)) := by
  unfold idxPlane
  rw [shapeCast_ab_1ab_apply]
  show BitVec.setWidth 16 ((scan x 20 _).2 (ix2 r l)) = _
  rw [(scan_apply x r l 20 _).2]
  apply BitVec.eq_of_toNat_eq
  simp [pred]

/-- The plane of labels holds each pixel's label, cut to sixteen bits. -/
theorem labPlane_apply (t : Vec F S1x16x512 .i32) (r : Fin 16) (l : Fin 512) :
    labPlane (F := F) t (ix3 0 r l) = (t (ix3 0 r l)).setWidth 16 := by
  unfold labPlane
  rw [shapeCast_ab_1ab_apply]
  show BitVec.setWidth 16 (shapeCast S16x512 t shapeCasts_S1x16x512_S16x512 (ix2 r l)) = _
  have e : shapeCast S16x512 t shapeCasts_S1x16x512_S16x512 (ix2 r l) = t (ix3 0 r l) := shapeCast_1ab_ab_apply t _ r l
  rw [e]

end Cert.KernelIdeal.Val
-- ==== Proof.Table.lean ====
/- What a grid point leaves in its table of counters, element by element: what was there, and the number of the point's groups of rows
   whose pixel counts. -/
module

public import proofs.«01_k».proof.Proof.Found
public import proofs.«01_k».proof.Proof.Block

@[expose] public section

set_option maxRecDepth 2048

noncomputable section

namespace Cert.KernelIdeal.Val

open Idealize.ShloMosaic hiding ix1 ix2 ix3 ix4
open Idealize.ShloMosaic.TcCoe Idealize.ShloMosaic.Tactic Idealize.ShloMosaic.ValueIdx
open Cert.KernelIdeal.Gen Cert.KernelIdeal Cert.Dice

variable {F : FTy → Type} [FloatOps F]

/-! ## Boxes -/

/-- Row `r` of group `k` in a block. -/
abbrev row (k : Fin NK) (r : Fin 16) : Fin 256 :=
  ⟨16 * k.val + r.val, by
    have h1 : k.val < 16 := k.isLt
    have h2 := r.isLt
    omega⟩

/-- The planes of two groups do not meet. -/
theorem boxI_disjoint {k k' : Fin NK} (h : k ≠ k') : Disjoint (boxI k).set (boxI k').toLoadRect.set := by
  rw [Finset.disjoint_left]
  intro y hy hy'
  have h1 := (Rect.mem_set_unit.mp hy) 0
  have h2 := (Rect.mem_set_unit.mp hy') 0
  simp [S1x16x512] at h1 h2
  exact h (Fin.ext (by omega))

/-- The planes of two counters or two classes do not meet. -/
theorem boxA_disjoint {q q' : Fin 3} {cl cl' : Fin NC} (h : q ≠ q' ∨ cl ≠ cl') : Disjoint (boxA q cl).set (boxA q' cl').toLoadRect.set := by
  rw [Finset.disjoint_left]
  intro y hy hy'
  have h1 := (Rect.mem_set_unit.mp hy) 0
  have h2 := (Rect.mem_set_unit.mp hy') 0
  have h3 := (Rect.mem_set_unit.mp hy) 1
  have h4 := (Rect.mem_set_unit.mp hy') 1
  simp [S1x1x16x512] at h1 h2 h3 h4
  rcases h with h | h
  · exact h (Fin.ext (by omega))
  · exact h (Fin.ext (by omega))

/-- Where an element of a plane of counters lies in the table. -/
theorem boxA_idx (q : Fin 3) (cl : Fin NC) (r : Fin 16) (l : Fin 512) :
    (boxA q cl).toLoadRect.idx (ix4 (0 : Fin 1) (0 : Fin 1) r l) = ix4 q cl r l := by
  refine funext fun a => Fin.ext ?_
  fin_cases a <;> simp [LoadRect.idx]

/-- Where a score of a group of rows lies in its block. -/
theorem boxX_idx (cl : Fin NC) (k : Fin NK) (r : Fin 16) (l : Fin 512) :
    (boxX cl k).toLoadRect.idx (ix4 (0 : Fin 1) (0 : Fin 1) r l) = ix4 (0 : Fin 1) cl (row k r) l := by
  refine funext fun a => Fin.ext ?_
  fin_cases a <;> simp [LoadRect.idx]

/-- Where a label of a group of rows lies in its block. -/
theorem boxT_idx (k : Fin NK) (r : Fin 16) (l : Fin 512) :
    (boxT k).toLoadRect.idx (ix3 (0 : Fin 1) r l) = ix3 (0 : Fin 1) (row k r) l := by
  refine funext fun a => Fin.ext ?_
  fin_cases a <;> simp [LoadRect.idx]

/-! ## Reading the stores back -/

/-- A load whose box misses the last store reads what was there before it. -/
theorem read_skip {s : Shape} {e : EltTy} (v : View sig .tc .vmem s e) (R B : Rect s) (w : R.shape.Idx → Elt F e) (L : List (View.Piece (Elt F) s e))
    (h : Disjoint R.set B.toLoadRect.set) : v.readCov (⟨R, w⟩ :: L) B.toLoadRect = v.readCov L B.toLoadRect :=
  View.readCov_cons_of_disjoint v ⟨R, w⟩ L B.toLoadRect h

/-- The stores of one more group are one store after those before. -/
theorem planes_succ (p : Fin NK → IVec S1x16x512 16) (n : ℕ) (h : n + 1 ≤ NK) :
    planes (F := F) p (n + 1) h = ⟨boxI ⟨n, h⟩, p ⟨n, h⟩⟩ :: planes p n (Nat.le_of_succ_le h) := rfl

/-- A plane stored for a group is what its load reads. -/
theorem planes_read (v : View sig .tc .vmem S16x16x512 .i16) (p : Fin NK → IVec S1x16x512 16) (k : Fin NK) (n : ℕ) (h : n ≤ NK) (hk : k.val < n) :
    v.readCov (planes (F := F) p n h) (boxI k).toLoadRect = p k := by
  induction n with
  | zero => exact absurd hk (Nat.not_lt_zero _)
  | succ n ih =>
    rw [planes_succ]
    by_cases e : k.val = n
    · have e' : k = ⟨n, h⟩ := Fin.ext e
      rw [e']
      exact View.readCov_cons_toLoadRect v (boxI ⟨n, h⟩) _ _
    · have hne : (⟨n, h⟩ : Fin NK) ≠ k := fun e' => e (congrArg Fin.val e').symm
      exact (read_skip v (boxI ⟨n, h⟩) (boxI k) _ _ (boxI_disjoint hne)).trans (ih _ (by omega))

variable (base : List (View.Piece (Elt F) S3x21x16x512 .i16))
  (old : List (View.Piece (Elt F) S3x21x16x512 .i16) → Fin 3 → Fin NC → Vec F S1x1x16x512 .i16) (i t : Fin NK → Vec F S1x16x512 .i16)

/-- The plane the stores put at counter `q` of class `cl`. -/
def stored (q : Fin 3) (cl : Fin NC) (n : ℕ) (h : n ≤ NC) : Vec F S1x1x16x512 .i16 :=
  newPlane (F := F) (old (stores base old i t n h) q cl) fun k => term (F := F) q (BitVec.ofNat 16 n) (i k) (t k)

/-- The stores of one more class are its three stores after those before. -/
theorem stores_succ (n : ℕ) (h : n + 1 ≤ NC) :
    stores base old i t (n + 1) h =
      ⟨boxA 2 ⟨n, h⟩, stored base old i t 2 ⟨n, h⟩ n (Nat.le_of_succ_le h)⟩ :: ⟨boxA 1 ⟨n, h⟩, stored base old i t 1 ⟨n, h⟩ n (Nat.le_of_succ_le h)⟩ ::
      ⟨boxA 0 ⟨n, h⟩, stored base old i t 0 ⟨n, h⟩ n (Nat.le_of_succ_le h)⟩ :: stores base old i t n (Nat.le_of_succ_le h) := rfl

/-- Three planes stored at one class leave another class as it was. -/
theorem read_other (v : View sig .tc .vmem S3x21x16x512 .i16) {q : Fin 3} {cl cl' : Fin NC} (hne : cl' ≠ cl) (w : Fin 3 → Vec F S1x1x16x512 .i16)
    (L : List (View.Piece (Elt F) S3x21x16x512 .i16)) :
    v.readCov (⟨boxA 2 cl', w 2⟩ :: ⟨boxA 1 cl', w 1⟩ :: ⟨boxA 0 cl', w 0⟩ :: L) (boxA q cl).toLoadRect = v.readCov L (boxA q cl).toLoadRect := by
  have hd : ∀ q' : Fin 3, Disjoint (boxA q' cl').set (boxA q cl).toLoadRect.set := fun q' => boxA_disjoint (.inr hne)
  exact (read_skip v (boxA 2 cl') (boxA q cl) _ _ (hd 2)).trans
    ((read_skip v (boxA 1 cl') (boxA q cl) _ _ (hd 1)).trans (read_skip v (boxA 0 cl') (boxA q cl) _ _ (hd 0)))

/-- Of three planes stored at one class, each is what its load reads. -/
theorem read_same (v : View sig .tc .vmem S3x21x16x512 .i16) (q : Fin 3) (cl : Fin NC) (w : Fin 3 → Vec F S1x1x16x512 .i16)
    (L : List (View.Piece (Elt F) S3x21x16x512 .i16)) :
    v.readCov (⟨boxA 2 cl, w 2⟩ :: ⟨boxA 1 cl, w 1⟩ :: ⟨boxA 0 cl, w 0⟩ :: L) (boxA q cl).toLoadRect = w q := by
  have hd : ∀ q' q : Fin 3, q' ≠ q → Disjoint (boxA q' cl).set (boxA q cl).toLoadRect.set := fun q' q h => boxA_disjoint (.inl h)
  match q with
  | 0 =>
    exact (read_skip v (boxA 2 cl) (boxA 0 cl) _ _ (hd 2 0 (by decide))).trans
      ((read_skip v (boxA 1 cl) (boxA 0 cl) _ _ (hd 1 0 (by decide))).trans (View.readCov_cons_toLoadRect v (boxA 0 cl) _ _))
  | 1 => exact (read_skip v (boxA 2 cl) (boxA 1 cl) _ _ (hd 2 1 (by decide))).trans (View.readCov_cons_toLoadRect v (boxA 1 cl) _ _)
  | 2 => exact View.readCov_cons_toLoadRect v (boxA 2 cl) _ _

/-- A counter plane that the stores have not reached reads what was there before them. -/
theorem stores_read_later (v : View sig .tc .vmem S3x21x16x512 .i16) (q : Fin 3) (cl : Fin NC) (n : ℕ) (h : n ≤ NC) (hn : n ≤ cl.val) :
    v.readCov (stores base old i t n h) (boxA q cl).toLoadRect = v.readCov base (boxA q cl).toLoadRect := by
  induction n with
  | zero => rfl
  | succ n ih =>
    have hne : (⟨n, h⟩ : Fin NC) ≠ cl := fun e => by
      have := congrArg Fin.val e
      simp at this
      omega
    rw [stores_succ, read_other v hne fun q => stored base old i t q ⟨n, h⟩ n (Nat.le_of_succ_le h)]
    exact ih _ (by omega)

/-- A counter plane that the stores have reached reads the plane stored there. -/
theorem stores_read (v : View sig .tc .vmem S3x21x16x512 .i16) (q : Fin 3) (cl : Fin NC) (n : ℕ) (h : n ≤ NC) (hn : cl.val < n) :
    v.readCov (stores base old i t n h) (boxA q cl).toLoadRect = stored base old i t q cl cl.val cl.isLt.le := by
  induction n with
  | zero => exact absurd hn (Nat.not_lt_zero _)
  | succ n ih =>
    rw [stores_succ]
    by_cases e : cl.val = n
    · subst e
      exact read_same v q cl (fun q => stored base old i t q cl cl.val cl.isLt.le) _
    · have hne : (⟨n, h⟩ : Fin NC) ≠ cl := fun e' => e (congrArg Fin.val e').symm
      rw [read_other v hne fun q => stored base old i t q ⟨n, h⟩ n (Nat.le_of_succ_le h)]
      exact ih _ (by omega)

/-! ## A point -/

variable (arg2 : Memref sig .tc .vmem S1x21x256x512 .f32) (harg2 : arg2.IsWhole) (arg3 : Memref sig .tc .vmem S1x256x512 .i32) (harg3 : arg3.IsWhole)
  (arg5 : Memref sig .tc .vmem S3x21x16x512 .i16) (harg5 : arg5.IsWhole) (arg6 : Memref sig .tc .vmem S16x16x512 .i16) (arg7 : Memref sig .tc .vmem S16x16x512 .i16)

/-- Whether the pixel in row `r` of group `k` and lane `l` of the point's blocks counts towards class `cl`. -/
def blockCounts (x0 : Vec Ideal S1x21x256x512 .f32) (x1 : Vec Ideal S1x256x512 .i32) (q : Fin 3) (cl : Fin NC) (k : Fin NK) (r : Fin 16) (l : Fin 512) : Bool :=
  counts q (BitVec.ofNat 16 cl.val) (BitVec.ofNat 16 (pred fun c => x0 (ix4 0 c (row k r) l))) ((x1 (ix3 0 (row k r) l)).setWidth 16)

/-- The stored class number of a pixel is its predicted class. -/
theorem idxOf_apply (x0 : Vec Ideal S1x21x256x512 .f32) (k : Fin NK) (r : Fin 16) (l : Fin 512) :
    idxOf (F := Ideal) arg2 harg2 x0 k (ix3 0 r l) = BitVec.ofNat 16 (pred fun c => x0 (ix4 0 c (row k r) l)) := by
  have e : ∀ cl : Fin NC, View.readAt (Elt Ideal) arg2.view (boxX cl k).toLoadRect (harg2.unread x0) (ix4 (0 : Fin 1) (0 : Fin 1) r l)
      = x0 (ix4 0 cl (row k r) l) := fun cl => by
    show View.read (Elt Ideal) arg2.view (harg2.unread x0) ((boxX cl k).toLoadRect.idx (ix4 (0 : Fin 1) (0 : Fin 1) r l)) = _
    rw [harg2.read_unread, boxX_idx]
  refine (idxPlane_apply (fun cl => View.readAt (Elt Ideal) arg2.view (boxX cl k).toLoadRect (harg2.unread x0)) r l).trans ?_
  exact congrArg (fun f => BitVec.ofNat 16 (pred f)) (funext e)

/-- The stored label of a pixel is its label cut to sixteen bits. -/
theorem labOf_apply (x1 : Vec Ideal S1x256x512 .i32) (k : Fin NK) (r : Fin 16) (l : Fin 512) :
    labOf (F := Ideal) arg3 harg3 x1 k (ix3 0 r l) = (x1 (ix3 0 (row k r) l)).setWidth 16 := by
  have e : View.readAt (Elt Ideal) arg3.view (boxT k).toLoadRect (harg3.unread x1) (ix3 (0 : Fin 1) r l) = x1 (ix3 0 (row k r) l) := by
    show View.read (Elt Ideal) arg3.view (harg3.unread x1) ((boxT k).toLoadRect.idx (ix3 (0 : Fin 1) r l)) = _
    rw [harg3.read_unread, boxT_idx]
  refine (labPlane_apply (F := Ideal) (View.readAt (Elt Ideal) arg3.view (boxT k).toLoadRect (harg3.unread x1)) r l).trans ?_
  exact congrArg (BitVec.setWidth 16) e

/-- The planes read back at a class count the pixels of the point's blocks. -/
theorem counts_back (x0 : Vec Ideal S1x21x256x512 .f32) (x1 : Vec Ideal S1x256x512 .i32) (q : Fin 3) (cl : Fin NC) (k : Fin NK) (r : Fin 16) (l : Fin 512) :
    counts q (BitVec.ofNat 16 cl.val) (idxBack (F := Ideal) arg2 harg2 arg6 x0 k (ix3 0 r l)) (labBack (F := Ideal) arg3 harg3 arg7 x1 k (ix3 0 r l))
      = blockCounts x0 x1 q cl k r l := by
  have h1 : idxBack (F := Ideal) arg2 harg2 arg6 x0 k = idxOf (F := Ideal) arg2 harg2 x0 k :=
    planes_read (F := Ideal) arg6.view (idxOf (F := Ideal) arg2 harg2 x0) k 16 (by decide) k.isLt
  have h2 : labBack (F := Ideal) arg3 harg3 arg7 x1 k = labOf (F := Ideal) arg3 harg3 x1 k :=
    planes_read (F := Ideal) arg7.view (labOf (F := Ideal) arg3 harg3 x1) k 16 (by decide) k.isLt
  rw [h1, h2, idxOf_apply, labOf_apply]
  rfl

/-- A later point's stores leave, at each counter, what the point before left and the number of groups that count. -/
theorem storesOn_apply (x0 : Vec Ideal S1x21x256x512 .f32) (x1 : Vec Ideal S1x256x512 .i32) (xs0 : Vec Ideal S3x21x16x512 .i16)
    (v : View sig .tc .vmem S3x21x16x512 .i16) (q : Fin 3) (cl : Fin NC) (r : Fin 16) (l : Fin 512) (N : ℕ) (hN : xs0 (ix4 q cl r l) = BitVec.ofNat 16 N) :
    v.readCov (storesOn (F := Ideal) arg2 harg2 arg3 harg3 arg5 harg5 arg6 arg7 x0 x1 xs0 21 (by decide)) (boxA q cl).toLoadRect (ix4 (0 : Fin 1) (0 : Fin 1) r l)
      = BitVec.ofNat 16 (N + ∑ k : Fin NK, bit (blockCounts x0 x1 q cl k r l)) := by
  have hold : View.readAt (Elt Ideal) arg5.view (boxA q cl).toLoadRect (harg5.unread xs0) (ix4 (0 : Fin 1) (0 : Fin 1) r l) = BitVec.ofNat 16 N := by
    show View.read (Elt Ideal) arg5.view (harg5.unread xs0) ((boxA q cl).toLoadRect.idx (ix4 (0 : Fin 1) (0 : Fin 1) r l)) = _
    rw [harg5.read_unread, boxA_idx, hN]
  unfold storesOn
  rw [stores_read (F := Ideal) _ _ _ _ v q cl 21 (by decide) cl.isLt]
  refine (newPlane_apply (F := Ideal) _ q _ _ _ r l N hold).trans ?_
  exact congrArg (fun s => BitVec.ofNat 16 (N + s)) (Finset.sum_congr rfl fun k _ => congrArg bit (counts_back arg2 harg2 arg3 harg3 arg6 arg7 x0 x1 q cl k r l))

/-- The first point's stores leave the number of groups that count. -/
theorem storesFirst_apply (x0 : Vec Ideal S1x21x256x512 .f32) (x1 : Vec Ideal S1x256x512 .i32)
    (v : View sig .tc .vmem S3x21x16x512 .i16) (q : Fin 3) (cl : Fin NC) (r : Fin 16) (l : Fin 512) :
    v.readCov (storesFirst (F := Ideal) arg2 harg2 arg3 harg3 arg5 arg6 arg7 x0 x1 21 (by decide)) (boxA q cl).toLoadRect (ix4 (0 : Fin 1) (0 : Fin 1) r l)
      = BitVec.ofNat 16 (∑ k : Fin NK, bit (blockCounts x0 x1 q cl k r l)) := by
  have hfill : arg5.view.readCov [⟨Rect.unit ![0, 0, 0, 0] S3x21x16x512.size inb_S3x21x16x512_S3x21x16x512_0_0_0_0,
      (shapeCast S3x21x16x512 (broadcast S3x21x16x512 0#16) shapeCasts_S3x21x16x512_S3x21x16x512 : Vec Ideal S3x21x16x512 .i16)⟩] (boxA q cl).toLoadRect
        (ix4 (0 : Fin 1) (0 : Fin 1) r l) = BitVec.ofNat 16 0 := by
    rw [View.readCov_fill _ _ _ _ _ (by decide)]
    rfl
  unfold storesFirst
  rw [stores_read (F := Ideal) _ _ _ _ v q cl 21 (by decide) cl.isLt]
  refine (newPlane_apply (F := Ideal) _ q _ _ _ r l 0 ?_).trans ?_
  · exact (congrFun (stores_read_later (F := Ideal) _ _ _ _ arg5.view q cl cl.val cl.isLt.le le_rfl) _).trans hfill
  · exact congrArg (BitVec.ofNat 16) ((Nat.zero_add _).trans
      (Finset.sum_congr rfl fun k _ => congrArg bit (counts_back arg2 harg2 arg3 harg3 arg6 arg7 x0 x1 q cl k r l)))

end Cert.KernelIdeal.Val
-- ==== Proof.Points.lean ====
/- The grid points in turn: what each one's blocks hold of the argument arrays, and what the table of counters holds after it — at each
   row, lane, class and counter, the number of pixels seen so far that count. -/
module

public import proofs.«01_k».proof.Proof.Table
public import Idealize.ShloMosaic.Lib.Pipeline.ValueKit.Point

@[expose] public section

noncomputable section

namespace Cert.KernelIdeal.Val

open Idealize.ShloMosaic hiding ix1 ix2 ix3 ix4
open Idealize.ShloMosaic.TcCoe Idealize.ShloMosaic.Tactic Idealize.ShloMosaic.ValueIdx
open Cert.KernelIdeal.Gen Cert.KernelIdeal Cert.Dice

variable (m : (ℓ : Loc nD τ sig) → Buf (Elt Ideal) ℓ) (c : Dev nD)

/-- The scores. -/
abbrev argX : Vec Ideal S8x21x512x512 .f32 := m ((c.tc : Thread nD τ).loc main_arg0)
/-- The labels. -/
abbrev argT : Vec Ideal S8x512x512 .i32 := m ((c.tc : Thread nD τ).loc main_arg1)

/-- The image of a grid point. -/
abbrev img (p : ℕ) : Fin 8 := ⟨p / 2 % 8, Nat.mod_lt _ (by decide)⟩
/-- The row of the image that is row `r` of group `k` of a grid point. -/
abbrev line (p : ℕ) (k : Fin NK) (r : Fin 16) : Fin 512 :=
  ⟨256 * (p % 2) + (16 * k.val + r.val), by
    have h1 : k.val < 16 := k.isLt
    have h2 := r.isLt
    omega⟩

/-- Whether a pixel of the arrays counts towards class `cl`, on 16-bit class numbers. -/
def pixel (X : Vec Ideal S8x21x512x512 .f32) (T : Vec Ideal S8x512x512 .i32) (q : Fin 3) (cl : Fin NC) (b : Fin 8) (R l : Fin 512) : Bool :=
  counts q (BitVec.ofNat 16 cl.val) (BitVec.ofNat 16 (pred fun c => X (ix4 b c R l))) ((T (ix3 b R l)).setWidth 16)

/-- The blocks each point sees. -/
theorem idx : ∀ t : Fin cfg0.N, win0_0.index t = ![t.val / 2 % 8, 0, t.val % 2, 0] ∧ win0_1.index t = ![t.val / 2 % 8, t.val % 2, 0]
    ∧ win0_2.index t = ![0, 0] := by decide +kernel

/-- A score in a point's block, as a score of the argument array. -/
theorem blockX_apply (t : Fin cfg0.N) (cl : Fin NC) (k : Fin NK) (r : Fin 16) (l : Fin 512) :
    (iblk m c 0 t : Vec Ideal S1x21x256x512 .f32) (ix4 (0 : Fin 1) cl (row k r) l) = argX m c (ix4 (img t.val) cl (line t.val k r) l) := by
  blk_ext [iblk, V, idx t]

/-- A label in a point's block, as a label of the argument array. -/
theorem blockT_apply (t : Fin cfg0.N) (k : Fin NK) (r : Fin 16) (l : Fin 512) :
    (iblk m c 1 t : Vec Ideal S1x256x512 .i32) (ix3 (0 : Fin 1) (row k r) l) = argT m c (ix3 (img t.val) (line t.val k r) l) := by
  blk_ext [iblk, V, idx t]

/-- The pixels of a point's blocks are the arrays' pixels in the point's rows. -/
theorem blockCounts_eq (t : Fin cfg0.N) (q : Fin 3) (cl : Fin NC) (k : Fin NK) (r : Fin 16) (l : Fin 512) :
    blockCounts (iblk m c 0 t) (iblk m c 1 t) q cl k r l = pixel (argX m c) (argT m c) q cl (img t.val) (line t.val k r) l := by
  unfold blockCounts pixel
  rw [blockT_apply m c t k r l]
  exact congrArg (fun f => counts q (BitVec.ofNat 16 cl.val) (BitVec.ofNat 16 (pred f)) _) (funext fun cl => blockX_apply m c t cl k r l)

/-- How many pixels of row `r`, lane `l` of the groups of point `p` count. -/
def seen (q : Fin 3) (cl : Fin NC) (r : Fin 16) (l : Fin 512) (p : ℕ) : ℕ :=
  ∑ k : Fin NK, bit (pixel (argX m c) (argT m c) q cl (img p) (line p k r) l)

/-- A point adds at most sixteen to a counter, one for each group of rows. -/
theorem seen_le (q : Fin 3) (cl : Fin NC) (r : Fin 16) (l : Fin 512) (p : ℕ) : seen m c q cl r l p ≤ 16 := by
  have h : ∀ b : Bool, bit b ≤ 1 := by decide
  have e := Finset.sum_le_card_nsmul (Finset.univ : Finset (Fin NK)) (fun k => bit (pixel (argX m c) (argT m c) q cl (img p) (line p k r) l)) 1 fun k _ => h _
  exact e.trans (le_of_eq (by rw [smul_eq_mul, mul_one, Finset.card_univ, Fintype.card_fin]))

/-- What a point's block adds to a counter, in terms of the argument arrays. -/
theorem sum_seen (t : Fin cfg0.N) (q : Fin 3) (cl : Fin NC) (r : Fin 16) (l : Fin 512) :
    ∑ k : Fin NK, bit (blockCounts (iblk m c 0 t) (iblk m c 1 t) q cl k r l) = seen m c q cl r l t.val :=
  Finset.sum_congr rfl fun k _ => congrArg bit (blockCounts_eq m c t q cl k r l)

/-- A counter read off a list of stores: what a load of its plane reads. -/
theorem canon_eq_read (L : List (View.Piece (Elt Ideal) S3x21x16x512 .i16)) (v : View sig .tc .vmem S3x21x16x512 .i16) (q : Fin 3) (cl : Fin NC)
    (r : Fin 16) (l : Fin 512) : View.canon L (ix4 q cl r l) = v.readCov L (boxA q cl).toLoadRect (ix4 (0 : Fin 1) (0 : Fin 1) r l) := by
  rw [View.readCov_eq_canon']
  exact congrArg (View.canon L) (boxA_idx q cl r l).symm

section Cases

variable (i : grid0.Coords) (arg2 : Memref sig .tc .vmem S1x21x256x512 .f32) (harg2 : arg2.IsWhole) (arg3 : Memref sig .tc .vmem S1x256x512 .i32) (harg3 : arg3.IsWhole)
  (arg4 : Memref sig .tc .smem S1x32 .f32) (harg4 : arg4.IsWhole) (arg5 : Memref sig .tc .vmem S3x21x16x512 .i16) (harg5 : arg5.IsWhole)
  (arg6 : Memref sig .tc .vmem S16x16x512 .i16) (harg6 : arg6.IsWhole) (arg7 : Memref sig .tc .vmem S16x16x512 .i16) (harg7 : arg7.IsWhole)
  (x0 : Vec Ideal S1x21x256x512 .f32) (x1 : Vec Ideal S1x256x512 .i32) (xs0 : Vec Ideal S3x21x16x512 .i16)

/-- What the table holds after a point of case A. -/
theorem tableA (hc0 : cond0_0 i) (hc1 : ¬cond0_1 i) (q : Fin 3) (cl : Fin NC) (r : Fin 16) (l : Fin 512) :
    sout0_A_0 c i arg2 harg2 arg3 harg3 arg4 harg4 arg5 harg5 arg6 harg6 arg7 harg7 hc0 hc1 x0 x1 (ix4 q cl r l)
      = BitVec.ofNat 16 (∑ k : Fin NK, bit (blockCounts x0 x1 q cl k r l)) := by
  unfold sout0_A_0
  rw [View.read_writes_junk_eq_canon, found_A, canon_eq_read _ VS0_0]
  exact storesFirst_apply arg2 harg2 arg3 harg3 arg5 arg6 arg7 x0 x1 VS0_0 q cl r l

/-- What the table holds after a point of case B. -/
theorem tableB (hc0 : ¬cond0_0 i) (hc1 : ¬cond0_1 i) (q : Fin 3) (cl : Fin NC) (r : Fin 16) (l : Fin 512)
    (N : ℕ) (hN : xs0 (ix4 q cl r l) = BitVec.ofNat 16 N) :
    sout0_B_0 c i arg2 harg2 arg3 harg3 arg4 harg4 arg5 harg5 arg6 harg6 arg7 harg7 hc0 hc1 x0 x1 xs0 (ix4 q cl r l)
      = BitVec.ofNat 16 (N + ∑ k : Fin NK, bit (blockCounts x0 x1 q cl k r l)) := by
  unfold sout0_B_0
  rw [View.read_writes_junk_eq_canon, found_B, canon_eq_read _ VS0_0]
  exact storesOn_apply arg2 harg2 arg3 harg3 arg5 harg5 arg6 arg7 x0 x1 xs0 VS0_0 q cl r l N hN

/-- What the table holds after a point of case C. -/
theorem tableC (hc0 : ¬cond0_0 i) (hc1 : cond0_1 i) (q : Fin 3) (cl : Fin NC) (r : Fin 16) (l : Fin 512)
    (N : ℕ) (hN : xs0 (ix4 q cl r l) = BitVec.ofNat 16 N) :
    sout0_C_0 c i arg2 harg2 arg3 harg3 arg4 harg4 arg5 harg5 arg6 harg6 arg7 harg7 hc0 hc1 x0 x1 xs0 (ix4 q cl r l)
      = BitVec.ofNat 16 (N + ∑ k : Fin NK, bit (blockCounts x0 x1 q cl k r l)) := by
  unfold sout0_C_0
  rw [View.read_writes_junk_eq_canon, found_C, canon_eq_read _ VS0_0]
  exact storesOn_apply arg2 harg2 arg3 harg3 arg5 harg5 arg6 arg7 x0 x1 xs0 VS0_0 q cl r l N hN

end Cases

/-- The table after the first point, which starts from zeros. -/
theorem leftA (t : Fin cfg0.N) (h0 : t.val % 16 = 0) (h1 : ¬t.val % 16 = 15) :
    (outsAt0 m c t.val t.isLt).2 = sout0_A_0 c (grid0.coords t) (ms0_0 t) (hs0_0 t) (ms0_1 t) (hs0_1 t) (ms0_2 t) (hs0_2 t) scM0_0 (Memref.isWhole_whole _) scM0_1 (Memref.isWhole_whole _)
    scM0_2 (Memref.isWhole_whole _) ((hcond0_0 t).mpr h0) (fun h => h1 ((hcond0_1 t).mp h)) (iblk m c 0 t) (iblk m c 1 t) := by
  rw [outsAt0_A m c t h0 h1]

/-- The table after a point in the middle, by the table before it. -/
theorem leftB (t : Fin cfg0.N) (h0 : ¬t.val % 16 = 0) (h1 : ¬t.val % 16 = 15) :
    (outsAt0 m c t.val t.isLt).2 = sout0_B_0 c (grid0.coords t) (ms0_0 t) (hs0_0 t) (ms0_1 t) (hs0_1 t) (ms0_2 t) (hs0_2 t) scM0_0 (Memref.isWhole_whole _) scM0_1 (Memref.isWhole_whole _)
    scM0_2 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2 := by
  rw [outsAt0_B m c t h0 h1]

/-- The table after the last point, by the table before it. -/
theorem leftC (t : Fin cfg0.N) (h0 : ¬t.val % 16 = 0) (h1 : t.val % 16 = 15) :
    (outsAt0 m c t.val t.isLt).2 = sout0_C_0 c (grid0.coords t) (ms0_0 t) (hs0_0 t) (ms0_1 t) (hs0_1 t) (ms0_2 t) (hs0_2 t) scM0_0 (Memref.isWhole_whole _) scM0_1 (Memref.isWhole_whole _)
    scM0_2 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2 := by
  rw [outsAt0_C m c t h0 h1]

/-- After the first point the table holds what that point saw. -/
theorem table_first (t : Fin cfg0.N) (h0 : t.val % 16 = 0) (q : Fin 3) (cl : Fin NC) (r : Fin 16) (l : Fin 512) :
    (outsAt0 m c t.val t.isLt).2 (ix4 q cl r l) = BitVec.ofNat 16 (seen m c q cl r l t.val) := by
  have h1 : ¬t.val % 16 = 15 := by omega
  rw [leftA m c t h0 h1]
  have e := tableA c (grid0.coords t) (ms0_0 t) (hs0_0 t) (ms0_1 t) (hs0_1 t) (ms0_2 t) (hs0_2 t) scM0_0 (Memref.isWhole_whole _) scM0_1 (Memref.isWhole_whole _)
    scM0_2 (Memref.isWhole_whole _) (iblk m c 0 t) (iblk m c 1 t) ((hcond0_0 t).mpr h0) (fun h => h1 ((hcond0_1 t).mp h)) q cl r l
  exact e.trans (congrArg (BitVec.ofNat 16) (sum_seen m c t q cl r l))

/-- A later point adds what it saw. -/
theorem table_next (t : Fin cfg0.N) (h0 : ¬t.val % 16 = 0) (q : Fin 3) (cl : Fin NC) (r : Fin 16) (l : Fin 512) (N : ℕ)
    (hN : (outsAt0 m c (t.val - 1) (Nat.lt_of_le_of_lt (Nat.sub_le _ _) t.isLt)).2 (ix4 q cl r l) = BitVec.ofNat 16 N) :
    (outsAt0 m c t.val t.isLt).2 (ix4 q cl r l) = BitVec.ofNat 16 (N + seen m c q cl r l t.val) := by
  by_cases h1 : t.val % 16 = 15
  · rw [leftC m c t h0 h1]
    have e := tableC c (grid0.coords t) (ms0_0 t) (hs0_0 t) (ms0_1 t) (hs0_1 t) (ms0_2 t) (hs0_2 t) scM0_0 (Memref.isWhole_whole _) scM0_1 (Memref.isWhole_whole _)
      scM0_2 (Memref.isWhole_whole _) (iblk m c 0 t) (iblk m c 1 t)
      (outsAt0 m c (t.val - 1) (Nat.lt_of_le_of_lt (Nat.sub_le _ _) t.isLt)).2 (fun h => h0 ((hcond0_0 t).mp h)) ((hcond0_1 t).mpr h1) q cl r l N hN
    exact e.trans (congrArg (fun s => BitVec.ofNat 16 (N + s)) (sum_seen m c t q cl r l))
  · rw [leftB m c t h0 h1]
    have e := tableB c (grid0.coords t) (ms0_0 t) (hs0_0 t) (ms0_1 t) (hs0_1 t) (ms0_2 t) (hs0_2 t) scM0_0 (Memref.isWhole_whole _) scM0_1 (Memref.isWhole_whole _)
      scM0_2 (Memref.isWhole_whole _) (iblk m c 0 t) (iblk m c 1 t)
      (outsAt0 m c (t.val - 1) (Nat.lt_of_le_of_lt (Nat.sub_le _ _) t.isLt)).2 (fun h => h0 ((hcond0_0 t).mp h)) (fun h => h1 ((hcond0_1 t).mp h)) q cl r l N hN
    exact e.trans (congrArg (fun s => BitVec.ofNat 16 (N + s)) (sum_seen m c t q cl r l))

/-- The table of counters after point `n`: at each counter the pixels seen so far that count. -/
theorem table (q : Fin 3) (cl : Fin NC) (r : Fin 16) (l : Fin 512) (n : ℕ) (h : n < cfg0.N) :
    (outsAt0 m c n h).2 (ix4 q cl r l) = BitVec.ofNat 16 (∑ p ∈ Finset.range (n + 1), seen m c q cl r l p) := by
  induction n with
  | zero => exact (table_first m c ⟨0, h⟩ (Nat.zero_mod _) q cl r l).trans (congrArg _ (Finset.sum_range_one _).symm)
  | succ n ih =>
    have hN : cfg0.N = 16 := N_0
    have h0 : ¬(n + 1) % 16 = 0 := by omega
    exact (table_next m c ⟨n + 1, h⟩ h0 q cl r l _ (ih _)).trans (congrArg _ (Finset.sum_range_succ _ _).symm)

end Cert.KernelIdeal.Val
-- ==== Proof.Output.lean ====
/- What the kernel writes: the last point turns the sums of the table's planes into the scores, and the host lines after the region keep
   the scores of the twenty-one classes. -/
module

public import proofs.«01_k».proof.Proof.Points

@[expose] public section

noncomputable section

namespace Cert.KernelIdeal.Val

open Idealize.ShloMosaic hiding ix1 ix2 ix3 ix4
open Idealize.ShloMosaic.TcCoe Idealize.ShloMosaic.Tactic Idealize.ShloMosaic.ValueIdx
open Cert.KernelIdeal.Gen Cert.KernelIdeal Cert.Dice

/-- A count below 2¹⁵ held in sixteen bits is read back exactly. -/
theorem sitofp_ofNat (n : ℕ) (h : n < 2 ^ 15) : (((BitVec.ofNat 16 n).toInt : ℝ) : EReal) = (n : EReal) := by
  have e : (BitVec.ofNat 16 n).toInt = (n : ℤ) := by
    rw [BitVec.toInt_eq_toNat_of_lt (by rw [BitVec.toNat_ofNat]; omega), BitVec.toNat_ofNat]
    congr 1
    omega
  rw [e]
  norm_cast

/-- The sum of a plane of counts is the sum of the counts. -/
theorem planeSum_apply (p : Vec Ideal S1x1x16x512 .i16) (cnt : Fin 16 → Fin 512 → ℕ) (hp : ∀ r l, p (ix4 (0 : Fin 1) (0 : Fin 1) r l) = BitVec.ofNat 16 (cnt r l))
    (hle : ∀ r l, cnt r l < 2 ^ 15) : planeSum (F := Ideal) p = ((∑ r, ∑ l, cnt r l : ℕ) : EReal) := by
  have e : ∀ (a : Fin 1) (r : Fin 16) (l : Fin 512),
      (shapeCast S1x16x512 (sitofp .f32 (shapeCast S16x512 p shapeCasts_S1x1x16x512_S16x512)) shapeCasts_S16x512_S1x16x512 : FVec Ideal S1x16x512 .f32) (ix3 a r l)
        = (cnt r l : EReal) := fun a r l => by
    have ha : a = 0 := Subsingleton.elim _ _
    subst ha
    rw [shapeCast_ab_1ab_apply]
    show (((shapeCast S16x512 p shapeCasts_S1x1x16x512_S16x512 (ix2 r l)).toInt : ℝ) : EReal) = _
    rw [cast4_apply, hp, sitofp_ofNat _ (hle r l)]
  unfold planeSum
  refine (Ideal.multiReduction_add_total _ _ reduces_S1x16x512_S1 (by decide) (.inl rfl) rfl _).trans ?_
  refine (sum_idx3 _).trans ?_
  rw [Fin.sum_univ_one]
  push_cast
  exact Finset.sum_congr rfl fun r _ => Finset.sum_congr rfl fun l _ => e 0 r l

/-- A cell of the output row, once stored, holds what was stored. -/
theorem cells_apply {F : FTy → Type} [FloatOps F] (plane : Fin 3 → Fin NC → Vec F S1x1x16x512 .i16) (j : Fin 32) (hj : j.val < NC) (n : ℕ) (h : n ≤ 32) (hn : j.val < n) :
    View.canon (cells (F := F) plane n h) (ix2 (0 : Fin 1) j) = score (planeSum (plane 0 ⟨j.val, hj⟩)) (planeSum (plane 1 ⟨j.val, hj⟩)) (planeSum (plane 2 ⟨j.val, hj⟩)) := by
  induction n with
  | zero => exact absurd hn (Nat.not_lt_zero _)
  | succ n ih =>
    rw [cells]
    by_cases e : j.val = n
    · subst e
      have hx : ix2 (0 : Fin 1) j = (boxO ⟨j.val, h⟩).emb (ix2 (0 : Fin 1) (0 : Fin 1)) := by
        refine funext fun a => Fin.ext ?_
        fin_cases a <;> simp
      rw [hx, View.canon_cons_emb, dif_pos hj]
    · rw [View.canon_cons_of_not_mem]
      · exact ih _ (by omega)
      · intro hm
        have hm' : ix2 (0 : Fin 1) j ∈ (boxO ⟨n, h⟩).set := hm
        have h1 : n ≤ j.val ∧ j.val < n + 1 := (Rect.mem_set_unit.mp hm') 1
        omega

variable (m : (ℓ : Loc nD τ sig) → Buf (Elt Ideal) ℓ) (c : Dev nD)

/-- How many pixels count towards class `cl`, as the kernel adds them up. -/
def total (q : Fin 3) (cl : Fin NC) : ℕ := ∑ r : Fin 16, ∑ l : Fin 512, ∑ p ∈ Finset.range 16, seen m c q cl r l p

/-- A counter stays below 2¹⁵ over all points. -/
theorem sum_seen_lt (q : Fin 3) (cl : Fin NC) (r : Fin 16) (l : Fin 512) : ∑ p ∈ Finset.range 16, seen m c q cl r l p < 2 ^ 15 := by
  have e := Finset.sum_le_card_nsmul (Finset.range 16) (fun p => seen m c q cl r l p) 16 fun p _ => seen_le m c q cl r l p
  rw [Finset.card_range, smul_eq_mul] at e
  omega

section LastPoint

variable (i : grid0.Coords) (arg2 : Memref sig .tc .vmem S1x21x256x512 .f32) (harg2 : arg2.IsWhole) (arg3 : Memref sig .tc .vmem S1x256x512 .i32) (harg3 : arg3.IsWhole)
  (arg4 : Memref sig .tc .smem S1x32 .f32) (harg4 : arg4.IsWhole) (arg5 : Memref sig .tc .vmem S3x21x16x512 .i16) (harg5 : arg5.IsWhole)
  (arg6 : Memref sig .tc .vmem S16x16x512 .i16) (harg6 : arg6.IsWhole) (arg7 : Memref sig .tc .vmem S16x16x512 .i16) (harg7 : arg7.IsWhole)
  (x0 : Vec Ideal S1x21x256x512 .f32) (x1 : Vec Ideal S1x256x512 .i32) (xs0 : Vec Ideal S3x21x16x512 .i16)

/-- The last point writes the score of the counts it ends with. -/
theorem out_of_counts (hc0 : ¬cond0_0 i) (hc1 : cond0_1 i) (j : Fin 32) (hj : j.val < NC) (M : Fin 3 → Fin 16 → Fin 512 → ℕ)
    (hM : ∀ q r l, planeBack (F := Ideal) arg2 harg2 arg3 harg3 arg5 harg5 arg6 arg7 x0 x1 xs0 q ⟨j.val, hj⟩ (ix4 (0 : Fin 1) (0 : Fin 1) r l) = BitVec.ofNat 16 (M q r l))
    (hlt : ∀ q r l, M q r l < 2 ^ 15) :
    out0_C_2 c i arg2 harg2 arg3 harg3 arg4 harg4 arg5 harg5 arg6 harg6 arg7 harg7 hc0 hc1 x0 x1 xs0 (ix2 (0 : Fin 1) j)
      = score (F := Ideal) ((∑ r, ∑ l, M 0 r l : ℕ) : EReal) ((∑ r, ∑ l, M 1 r l : ℕ) : EReal) ((∑ r, ∑ l, M 2 r l : ℕ) : EReal) := by
  unfold out0_C_2
  rw [View.read_writes_junk_eq_canon, found_out, cells_apply _ j hj 32 (by decide) j.isLt, planeSum_apply _ (M 0) (hM 0) (hlt 0),
    planeSum_apply _ (M 1) (hM 1) (hlt 1), planeSum_apply _ (M 2) (hM 2) (hlt 2)]

end LastPoint

/-- What the last point leaves in the output row, by the table the point before it left. -/
theorem outC (t : Fin cfg0.N) (h0 : ¬t.val % 16 = 0) (h1 : t.val % 16 = 15) :
    (outsAt0 m c t.val t.isLt).1 = out0_C_2 c (grid0.coords t) (ms0_0 t) (hs0_0 t) (ms0_1 t) (hs0_1 t) (ms0_2 t) (hs0_2 t) scM0_0 (Memref.isWhole_whole _) scM0_1 (Memref.isWhole_whole _)
      scM0_2 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2 := by
  rw [outsAt0_C m c t h0 h1]

/-- The output row after the last point: the scores of the counts over all points. -/
theorem row_last (t : Fin cfg0.N) (h1 : t.val = 15) (j : Fin 32) (hj : j.val < NC) :
    (outsAt0 m c t.val t.isLt).1 (ix2 (0 : Fin 1) j)
      = score (F := Ideal) (total m c 0 ⟨j.val, hj⟩ : EReal) (total m c 1 ⟨j.val, hj⟩ : EReal) (total m c 2 ⟨j.val, hj⟩ : EReal) := by
  have h0 : ¬t.val % 16 = 0 := by omega
  have h1' : t.val % 16 = 15 := by omega
  rw [outC m c t h0 h1']
  have hM : ∀ q r l, planeBack (F := Ideal) (ms0_0 t) (hs0_0 t) (ms0_1 t) (hs0_1 t) scM0_0 (Memref.isWhole_whole _) scM0_1 scM0_2 (iblk m c 0 t) (iblk m c 1 t)
      (outsAt0 m c (t.val - 1) (Nat.lt_of_le_of_lt (Nat.sub_le _ _) t.isLt)).2 q ⟨j.val, hj⟩ (ix4 (0 : Fin 1) (0 : Fin 1) r l)
        = BitVec.ofNat 16 (∑ p ∈ Finset.range 16, seen m c q ⟨j.val, hj⟩ r l p) := fun q r l => by
    have e := storesOn_apply (ms0_0 t) (hs0_0 t) (ms0_1 t) (hs0_1 t) scM0_0 (Memref.isWhole_whole _) scM0_1 scM0_2 (iblk m c 0 t) (iblk m c 1 t)
      (outsAt0 m c (t.val - 1) (Nat.lt_of_le_of_lt (Nat.sub_le _ _) t.isLt)).2 scM0_0.view q ⟨j.val, hj⟩ r l _ (table m c q ⟨j.val, hj⟩ r l (t.val - 1) _)
    refine e.trans (congrArg (BitVec.ofNat 16) ?_)
    rw [sum_seen m c t, h1]
    exact (Finset.sum_range_succ _ 15).symm
  exact out_of_counts c (grid0.coords t) (ms0_0 t) (hs0_0 t) (ms0_1 t) (hs0_1 t) (ms0_2 t) (hs0_2 t) scM0_0 (Memref.isWhole_whole _) scM0_1 (Memref.isWhole_whole _)
      scM0_2 (Memref.isWhole_whole _) (iblk m c 0 t) (iblk m c 1 t)
    (outsAt0 m c (t.val - 1) (Nat.lt_of_le_of_lt (Nat.sub_le _ _) t.isLt)).2 (fun h => h0 ((hcond0_0 t).mp h)) ((hcond0_1 t).mpr h1') j hj
    (fun q r l => ∑ p ∈ Finset.range 16, seen m c q ⟨j.val, hj⟩ r l p) hM fun q r l => sum_seen_lt m c q _ r l

/-- The kernel's result. -/
def result : Vec Ideal S21 .f32 := fun i => score (F := Ideal) (total m c 0 (i 0) : EReal) (total m c 1 (i 0) : EReal) (total m c 2 (i 0) : EReal)

/-- The output window is written back once, whole, at the last point. -/
theorem whole_last : (cfg0.win 2).WholeAt t0_15 := by decide +kernel

/-- The output array after the region, at a class: the class's score. -/
theorem array_apply (j : Fin 32) (hj : j.val < NC) :
    ((dats m 0 c).arrAt 2 cfg0.N : Vec Ideal S1x32 .f32) (ix2 (0 : Fin 1) j)
      = score (F := Ideal) (total m c 0 ⟨j.val, hj⟩ : EReal) (total m c 1 ⟨j.val, hj⟩ : EReal) (total m c 2 ⟨j.val, hj⟩ : EReal) := by
  refine ((dats m 0 c).arrAt_emb_eq_after_last 2 t0_15 whole_last (ix2 (0 : Fin 1) j)).trans ?_
  rw [after0_2]
  exact row_last m c t0_15 rfl j hj

end Cert.KernelIdeal.Val
-- ==== Proof.KernelRun.lean ====
/- The whole program: after the region the host takes the first row's twenty-one cells, which is the result. -/
module

public import proofs.«01_k».proof.Proof.Output
public import Idealize.ShloMosaic.Lib.Pipeline.FrameTail
public import Idealize.ShloMosaic.Lib.ValueLayout

@[expose] public section

noncomputable section

namespace Cert.KernelIdeal.Val

open Idealize.ShloMosaic hiding ix1 ix2 ix3 ix4
open Idealize.ShloMosaic.TcCoe Idealize.ShloMosaic.Tactic Idealize.ShloMosaic.ValueIdx
open Idealize.SL.Sem
open Cert.KernelIdeal.Gen Cert.KernelIdeal Cert.Dice

variable (m : (ℓ : Loc nD τ sig) → Buf (Elt Ideal) ℓ) (ρ : Dev nD → PrngReg) (c : Dev nD)

/-- The host lines after the region, of the output array: its first row's first twenty-one cells. -/
theorem tail_eq : (Pipeline.afterTail₀ cfgs (dats m) 0 (V0 m) [hostOps1] c main_v2 : Vec Ideal S21 .f32)
    = shapeCast S21 (extractStridedSlice S1x21 ![0, 0] ((dats m 0 c).arrAt 2 cfg0.N : Vec Ideal S1x32 .f32) slices_S1x32_S1x21_0_0) shapeCasts_S1x21_S21 := by
  unfold Pipeline.afterTail₀
  simp only [List.flatten_cons, List.flatten_nil, List.append_nil]
  after_region_results
  erw [Pipeline.withArrays_arr _ launch0.win.arr_inj c _ _ 2]
  rfl

/-- Cell `i` of the result is cell `i` of the output array's first row. -/
theorem tail_apply (x : Vec Ideal S1x32 .f32) (i : Fin 21) :
    shapeCast S21 (extractStridedSlice S1x21 ![0, 0] x slices_S1x32_S1x21_0_0) shapeCasts_S1x21_S21 (ix1 i)
      = x (ix2 (0 : Fin 1) (⟨i.val, lt_trans i.isLt (by decide)⟩ : Fin 32)) := by
  pointwise
  congr 1

/-- The host lines after the region leave the kernel's result. -/
theorem tail_result : Pipeline.afterTail₀ cfgs (dats m) 0 (V0 m) [hostOps1] c main_v2 = result m c := by
  refine (tail_eq m c).trans (funext fun i => ?_)
  obtain ⟨a, rfl⟩ : ∃ a : Fin 21, i = ix1 a := ⟨i 0, ValueIdx.eq_ix1 i⟩
  rw [tail_apply, array_apply m c _ a.isLt]
  rfl

/-- The kernel's run: the result, and the arguments unchanged. -/
theorem run : θ_run defs (onTc (τ := τ) (main (F := Ideal))) ⟨m, fun _ => 0, ρ⟩ (fun r => ∀ c : Dev nD,
    r.2.mem ((c.tc : Thread nD τ).loc main_v2) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).2 main_v2 (by decide)).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Val
-- ==== Proof.RefRun.lean ====
/- The reference's run: the program is a straight line of host operations, and its result is a term of the arguments. -/
module

public import proofs.«01_k».proof.ReferenceIdeal
public import proofs.«01_k».proof.Proof.Gen.ReferenceIdeal
public import Idealize.ShloMosaic.PureOps.Ideal
public import Idealize.ShloMosaic.Lib.Claim
public import Idealize.ShloMosaic.Lib.Quiescent

@[expose] public section

noncomputable section

namespace Cert.ReferenceIdeal.Val

open Idealize.ShloMosaic Idealize.ShloMosaic.TcCoe Idealize.ShloMosaic.StableHlo
open Idealize.SL.Sem
open Cert.ReferenceIdeal.Gen Cert.ReferenceIdeal

/-- One straight line after another is the straight line of both lists. -/
theorem isSeq_append {nD : ℕ} {τ : Topo} {sig : RefSig} {Val : EltTy → Type} {Λ : Labels}
    {p q : Prog (TpuEff nD τ sig Val Λ .tc) PUnit} {l₁ l₂ : List (HloOp τ sig Val)} (h₁ : IsSeq p l₁) (h₂ : IsSeq q l₂) :
    IsSeq (p >>= fun _ => q) (l₁ ++ l₂) := by
  unfold IsSeq at *
  rw [seq_append, h₁, h₂]

/-- The arg-max function's operations. -/
theorem argmax_seq (x : TRef sig ⟨S8x21x512x512, .f32⟩) (φ : fn_argmax.Bufs) :
    IsSeq (fn_argmax.body (F := Ideal) x φ) [TRef.nullary φ.v0 (iotaInDim S8x21x512x512 32 1), TRef.nullary φ.cst (constant (F := Ideal) S_ .f32 0xFF800000#32),
      TRef.nullary φ.c (constantI S_ 32 0#32),
      TRef.quaternary (Val := Elt Ideal) x φ.v0 φ.cst φ.c φ.v1_0 (fun x y u v j => (Host.argReduce (F := Ideal) (φ := .f32) reducer_argmax_f32_i32 x y u v reducesTo_S8x21x512x512_S8x512x512_d1 h_S_ j).1),
      TRef.quaternary (Val := Elt Ideal) x φ.v0 φ.cst φ.c φ.v1_1 (fun x y u v j => (Host.argReduce (F := Ideal) (φ := .f32) reducer_argmax_f32_i32 x y u v reducesTo_S8x21x512x512_S8x512x512_d1 h_S_ j).2)] := rfl

/-- The two-sided clip's operations. -/
theorem clip_seq (x : TRef sig ⟨S2097152, .i32⟩) (lo hi : TRef sig ⟨S_, .i32⟩) (φ : fn_clip.Bufs) :
    IsSeq (fn_clip.body (F := Ideal) x lo hi φ) [TRef.unary lo φ.v0 id, TRef.unary φ.v0 φ.v1 (broadcastInDim S2097152 ![] bcast_S_S2097152),
      TRef.binary φ.v1 x φ.v2 maxsi, TRef.unary hi φ.v3 id, TRef.unary φ.v3 φ.v4 (broadcastInDim S2097152 ![] bcast_S_S2097152),
      TRef.binary φ.v4 φ.v2 φ.v5 minsi] := rfl

/-- The one-sided clip's operations. -/
theorem clip_0_seq (x : TRef sig ⟨S2097152, .i32⟩) (lo : TRef sig ⟨S_, .i32⟩) (φ : fn_clip_0.Bufs) :
    IsSeq (fn_clip_0.body (F := Ideal) x lo φ) [TRef.unary lo φ.v0 id, TRef.unary φ.v0 φ.v1 (broadcastInDim S2097152 ![] bcast_S_S2097152),
      TRef.binary φ.v1 x φ.v2 maxsi] := rfl

/-- The operations of the whole program, in order, read off it. -/
def line : { ops : List (HloOp τ sig (Elt Ideal)) // ∀ d, IsSeq (main (F := Ideal) d) ops } := by
  apply Subtype.mk
  intro d
  unfold main
  apply isSeq_append
  · unfold main_part0
    repeat first
      | exact IsSeq.nil
      | apply isSeq_append (argmax_seq _ _)
      | apply isSeq_append (clip_seq _ _ _ _)
      | apply isSeq_append (clip_0_seq _ _ _)
      | apply IsSeq.cons
  · unfold main_part1
    repeat first
      | exact IsSeq.nil
      | apply isSeq_append (clip_seq _ _ _ _)
      | apply isSeq_append (clip_0_seq _ _ _)
      | apply IsSeq.cons

/-- The operations read and write the program's own arrays. -/
theorem line_bufs : line.1.Forall fun op => op.bufs ⊆ tcRefs τ sig := by
  unfold line
  simp

/-- No operation takes a fresh array. -/
theorem line_fresh : ∀ op ∈ line.1, op.fresh = ∅ := by
  unfold line
  intro _ h
  simp only [List.cons_append, List.nil_append] at h
  (repeat (cases h with | head => rfl | tail _ h => ?_)); exact nomatch h

/-- The class the reference picks for each pixel, counted from zero. -/
def picked (X : FVec Ideal S8x21x512x512 .f32) : IVec S8x512x512 32 := fun j =>
  (Host.argReduce reducer_argmax_f32_i32 X (iotaInDim S8x21x512x512 32 1) (constant (F := Ideal) S_ .f32 0xFF800000#32) (constantI S_ 32 0#32)
    reducesTo_S8x21x512x512_S8x512x512_d1 h_S_ j).2

/-- One word at every pixel. -/
def every (w : BitVec 32) : IVec S8x512x512 32 := broadcastInDim S8x512x512 ![] bcast_S_S8x512x512 (constantI S_ 32 w)

/-- The labels counted from one. -/
def labels (T : IVec S8x512x512 32) : IVec S8x512x512 32 := addi T (every 1#32)

/-- The picked classes counted from one, zero where the label is not positive. -/
def picks (X : FVec Ideal S8x21x512x512 .f32) (T : IVec S8x512x512 32) : IVec S8x512x512 32 :=
  muli (addi (picked X) (every 1#32)) (extui 32 (cmpi .sgt (labels T) (every 0#32)) natLt_1_32)

/-- The picked classes where they are the labels, zero elsewhere. -/
def hits (X : FVec Ideal S8x21x512x512 .f32) (T : IVec S8x512x512 32) : IVec S8x512x512 32 :=
  muli (picks X T) (extui 32 (cmpi .eq (picks X T) (labels T)) natLt_1_32)

/-- One word at every place of the flat array. -/
def flat (w : BitVec 32) : IVec S2097152 32 := broadcastInDim S2097152 ![] bcast_S_S2097152 (constantI S_ 32 w)

/-- The flat array of a plane, every value brought between zero and twenty-one. -/
def clipped (x : IVec S8x512x512 32) : IVec S2097152 32 :=
  maxsi (flat 0#32) (minsi (flat 21#32) (maxsi (flat 0#32) (shapeCast S2097152 x shapeCasts_S8x512x512_S2097152)))

/-- How often each value from zero to twenty-one occurs in a plane. -/
def bins (x : IVec S8x512x512 32) : IVec S22 32 :=
  Host.scatter scatter_S22_S2097152x1_S2097152_n_0_0_1 IntOp.addi (broadcastInDim S22 ![] bcast_S_S22 (constantI S_ 32 0#32))
    (broadcastInDim S2097152x1 ![0] bcast_S2097152_S2097152x1_0
      (select (cmpi .slt (clipped x) (flat 0#32)) (addi (clipped x) (flat 22#32)) (clipped x)))
    (flat 1#32)

/-- How often each value from one to twenty-one occurs in a plane, as a float. -/
def hist (x : IVec S8x512x512 32) : FVec Ideal S21 .f32 := sitofp .f32 (extractStridedSlice S21 ![1] (bins x) slices_S22_S21_1)

/-- One float at each of the twenty-one places. -/
def each (w : BitVec 32) : FVec Ideal S21 .f32 := broadcastInDim S21 ![] bcast_S_S21 (constant S_ .f32 w)

/-- The ratio of the intersection to the union, from the three histograms. -/
def ratio (p l i : FVec Ideal S21 .f32) : FVec Ideal S21 .f32 :=
  Host.divf (mulf (each 0x3F800000#32) i) (addf (each 0x25800000#32) (subf (addf p l) i))

/-- The score, from the ratio. -/
def scored (q : FVec Ideal S21 .f32) : FVec Ideal S21 .f32 :=
  Host.divf (mulf (each 0x40000000#32) q) (addf q (each 0x3F800000#32))

/-- The reference's result as a term of its arguments. -/
def value (X : FVec Ideal S8x21x512x512 .f32) (T : IVec S8x512x512 32) : FVec Ideal S21 .f32 :=
  scored (ratio (hist (picks X T)) (hist (labels T)) (hist (hits X T)))

variable (V : Valuation τ sig (Elt Ideal))

/-- The `n` operations from the `a`-th on. -/
def part (a n : ℕ) : List (HloOp τ sig (Elt Ideal)) := (line.1.drop a).take n

/-- Running a list is running its first operations, then the rest. -/
theorem after_split (n : ℕ) (l : List (HloOp τ sig (Elt Ideal))) : after l V = after (l.drop n) (after (l.take n) V) := by
  induction n generalizing l V with
  | zero => rfl
  | succ n ih =>
    cases l with
    | nil => rfl
    | cons op l => exact ih (op.result V) l

/-- The whole line is five parts: the three planes, the three histograms, the score. -/
theorem after_line : after line.1 V
    = after (part 103 16) (after (part 75 28) (after (part 47 28) (after (part 19 28) (after (part 0 19) V)))) := by
  rw [after_split V 19, after_split _ 28, after_split _ 28, after_split _ 28]
  simp only [List.drop_drop]
  rfl

/-- What the first part leaves: the three planes, and the arguments. -/
theorem after_planes : (after (part 0 19) V main_v11 : IVec S8x512x512 32) = hits (V main_arg0) (V main_arg1)
    ∧ (after (part 0 19) V main_v8 : IVec S8x512x512 32) = picks (V main_arg0) (V main_arg1)
    ∧ (after (part 0 19) V main_v4 : IVec S8x512x512 32) = labels (V main_arg1) := by
  unfold part line
  simp only [List.cons_append, List.nil_append, List.drop_zero, List.take_succ_cons, List.take_zero]
  refine ⟨?_, ?_, ?_⟩ <;> after_results_simp <;> rfl

/-- What each of the three middle parts leaves: the histogram of its plane. -/
theorem after_hists : (after (part 19 28) V main_v25 : FVec Ideal S21 .f32) = hist (V main_v11)
    ∧ (after (part 47 28) V main_v39 : FVec Ideal S21 .f32) = hist (V main_v8)
    ∧ (after (part 75 28) V main_v53 : FVec Ideal S21 .f32) = hist (V main_v4) := by
  unfold part line
  simp only [List.cons_append, List.nil_append, List.drop_succ_cons, List.drop_zero, List.take_succ_cons, List.take_zero]
  refine ⟨?_, ?_, ?_⟩ <;> after_results_simp <;> rfl

/-- What the last part leaves: the score of the three histograms. -/
theorem after_score : (after (part 103 16) V main_v65 : FVec Ideal S21 .f32) = scored (ratio (V main_v39) (V main_v53) (V main_v25)) := by
  unfold part line
  simp only [List.cons_append, List.nil_append, List.drop_succ_cons, List.drop_zero, List.take_succ_cons, List.take_zero]
  after_results_simp
  rfl

/-- What the middle parts leave alone. -/
theorem after_kept : after (part 19 28) V main_v8 = V main_v8 ∧ after (part 19 28) V main_v4 = V main_v4
    ∧ after (part 47 28) V main_v4 = V main_v4 ∧ after (part 47 28) V main_v25 = V main_v25
    ∧ after (part 75 28) V main_v25 = V main_v25 ∧ after (part 75 28) V main_v39 = V main_v39 := by
  unfold part line
  simp only [List.cons_append, List.nil_append, List.drop_succ_cons, List.drop_zero, List.take_succ_cons, List.take_zero]
  refine ⟨?_, ?_, ?_, ?_, ?_, ?_⟩ <;> after_results_simp

/-- The whole line leaves the result as a term of the arguments. -/
theorem after_value : (after line.1 V main_v65 : FVec Ideal S21 .f32) = value (V main_arg0) (V main_arg1) := by
  rw [after_line, after_score, (after_kept _).2.2.2.2.2, (after_kept _).2.2.2.2.1, (after_hists _).2.2, (after_hists _).2.1,
    (after_kept _).2.2.2.1, (after_kept _).2.2.1, (after_hists _).1, (after_kept _).1, (after_kept _).2.1,
    (after_planes _).1, (after_planes _).2.1, (after_planes _).2.2]
  rfl

/-- The whole line leaves the arguments alone. -/
theorem after_args : after line.1 V main_arg0 = V main_arg0 ∧ after line.1 V main_arg1 = V main_arg1 := by
  unfold line
  simp only [List.cons_append, List.nil_append]
  refine ⟨?_, ?_⟩ <;> after_results_simp

/-- The reference's run: its result, the arguments unchanged, and every counter at zero. -/
theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      (r.2.mem ((c.tc : Thread nD τ).loc main_v65) : FVec Ideal S21 .f32)
        = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_hlo defs main line.2 (by decide) (by decide) line_bufs line_fresh m ρ) fun r h =>
    ⟨fun c => ⟨(h c main_v65).trans (after_value _), (h c main_arg0).trans (after_args _).1, (h c main_arg1).trans (after_args _).2⟩,
      sem_eq_zero_of_no_sems (by decide) r.2⟩

end Cert.ReferenceIdeal.Val
-- ==== Proof.InRange.lean ====
/- The precondition read back: every label is a class number. -/
module

public import proofs.«01_k».proof.Pre_in_range
public import proofs.«01_k».proof.Proof.Gen.Pre_in_range
public import Idealize.ShloMosaic.PureOps.Ideal
public import Idealize.ShloMosaic.Lib.ReduceAll

@[expose] public section

noncomputable section

namespace Cert.Dice

open Idealize.ShloMosaic
open Cert.Pre_in_range.Gen Cert.Pre_in_range

/-- An array without axes has one place. -/
instance : Subsingleton S_.Idx := ⟨fun _ _ => funext fun a => a.elim0⟩

/-- Where the precondition holds, every label is a number below twenty-one. -/
theorem label_lt (X : FVec Ideal S8x21x512x512 .f32) (T : IVec S8x512x512 32) (h : fn (F := Ideal) X T = fun _ => 1#1) (j : S8x512x512.Idx) :
    (T j).toNat < 21 := by
  have e := Host.reduce_andi_all _ _ _ _ (Shape.Idx.first h_S_) (congrFun h (Shape.Idx.first h_S_)) j
  obtain ⟨e1, e2⟩ := IntOp.andi_eq_one.1 e
  have h1 : (0#32).toInt ≤ (T j).toInt := IntOp.cmpi_sge.1 e1
  have h2 : (T j).toInt < (21#32).toInt := IntOp.cmpi_slt.1 e2
  have z : (0#32).toInt = 0 := by decide
  have w : (21#32).toInt = 21 := by decide
  rw [z] at h1
  rw [w] at h2
  rw [BitVec.toInt_eq_toNat_cond] at h1 h2
  have := (T j).isLt
  split at h1 <;> omega

end Cert.Dice
-- ==== Proof.Tally.lean ====
/- What is counted: over all pixels of all images, how many count towards a class; and the score made of three such counts. -/
module

public import proofs.«01_k».proof.Proof.Pixel
public import Idealize.ShloMosaic.Lib.ValueIdxCore

@[expose] public section

noncomputable section

namespace Cert.Dice

open Idealize.ShloMosaic
open Idealize.ShloMosaic.ValueIdx

/-- The scores: image, class, row, lane. -/
abbrev Scores : Type := (⟨4, ![8, 21, 512, 512]⟩ : Shape).Idx → EReal
/-- A number at each pixel: image, row, lane. -/
abbrev Pixels : Type := (⟨3, ![8, 512, 512]⟩ : Shape).Idx → ℕ

/-- How many pixels count towards class `cl`. -/
def tally (X : Scores) (t : Pixels) (q : Fin 3) (cl : ℕ) : ℕ :=
  ∑ b : Fin 8, ∑ R : Fin 512, ∑ l : Fin 512, if counts q cl (pred fun c => X (ix4 b c R l)) (t (ix3 b R l)) then 1 else 0

/-- No more pixels count than there are. -/
theorem tally_le (X : Scores) (t : Pixels) (q : Fin 3) (cl : ℕ) : tally X t q cl ≤ 8 * (512 * 512) := by
  have h : ∀ (b : Fin 8) (R l : Fin 512), (if counts q cl (pred fun c => X (ix4 b c R l)) (t (ix3 b R l)) then 1 else 0) ≤ 1 := fun b R l => by
    split <;> decide
  have all : ∀ (n : ℕ) (f : Fin n → ℕ) (k : ℕ), (∀ i, f i ≤ k) → ∑ i, f i ≤ n * k := fun n f k hf => by
    have := Finset.sum_le_card_nsmul Finset.univ f k fun i _ => hf i
    rwa [Finset.card_univ, Fintype.card_fin, smul_eq_mul] at this
  refine all 8 _ _ fun b => all 512 _ _ fun R => ?_
  have := all 512 _ 1 (h b R)
  rwa [Nat.mul_one] at this

/-- The score of a class, from the numbers of its predictions, its labels and the pixels that are both. -/
def dice (p l i : EReal) : EReal :=
  let r := Ideal.div i (Ideal.ofBits .f32 0x25800000#32 + (p + l - i))
  Ideal.div (Ideal.ofBits .f32 0x40000000#32 * r) (r + Ideal.ofBits .f32 0x3F800000#32)

end Cert.Dice
-- ==== Proof.KernelTally.lean ====
/- The kernel's result in numbers: grid points, groups and rows run once over all rows of all images, and 16-bit class numbers
   are compared as the numbers they stand for. -/
module

public import proofs.«01_k».proof.Proof.Output
public import proofs.«01_k».proof.Proof.Tally
public import Idealize.ShloMosaic.Lib.Pointwise.Index

@[expose] public section

noncomputable section

namespace Cert.KernelIdeal.Val

open Idealize.ShloMosaic hiding ix1 ix2 ix3 ix4
open Idealize.ShloMosaic.ValueIdx
open Cert.KernelIdeal.Gen Cert.KernelIdeal Cert.Dice

/-- Two 16-bit words are equal exactly when they stand for the same number. -/
theorem word_eq_iff (w : BitVec 32) (a b : ℕ) (ha : a < 21) (hb : b < 21) (hw : w.toNat < 21) :
    (BitVec.ofNat 16 a = BitVec.ofNat 16 b ↔ a = b) ∧ (w.setWidth 16 = BitVec.ofNat 16 b ↔ w.toNat = b) := by
  rw [← BitVec.toNat_inj, ← BitVec.toNat_inj, BitVec.toNat_setWidth, BitVec.toNat_ofNat, BitVec.toNat_ofNat]
  constructor <;> omega

/-- A sum over `a · b` numbers, in `a` runs of `b`. -/
theorem sum_runs (a b n : ℕ) (h : n = a * b) (f : Fin n → ℕ) :
    ∑ x, f x = ∑ i : Fin a, ∑ j : Fin b, f ⟨j.val + b * i.val, by
      have h1 : b * i.val + b ≤ b * a := by rw [← Nat.mul_succ]; exact Nat.mul_le_mul_left b i.isLt
      have h2 := j.isLt
      rw [h, Nat.mul_comm a b]
      omega⟩ := by
  subst h
  rw [← finProdFinEquiv.sum_comp, Fintype.sum_prod_type]
  rfl

/-- The rows of the groups of the grid points are all rows of all images. -/
theorem sum_lines (G : Fin 8 → Fin 512 → ℕ) :
    ∑ p ∈ Finset.range 16, ∑ k : Fin NK, ∑ r : Fin 16, G (img p) (line p k r) = ∑ b, ∑ R, G b R := by
  rw [Finset.sum_range, sum_runs 8 2 16 rfl]
  refine Finset.sum_congr rfl fun b _ => ?_
  rw [sum_runs 2 256 512 rfl]
  refine Finset.sum_congr rfl fun h _ => ?_
  rw [sum_runs 16 16 256 rfl]
  refine Finset.sum_congr rfl fun k _ => Finset.sum_congr rfl fun r _ => ?_
  have hb := b.isLt
  have hh := h.isLt
  refine congrArg₂ G (Fin.ext ?_) (Fin.ext ?_)
  · show (h.val + 2 * b.val) / 2 % 8 = b.val
    omega
  · show 256 * ((h.val + 2 * b.val) % 2) + (16 * k.val + r.val) = r.val + 16 * k.val + 256 * h.val
    omega

/-- The sums over rows and lanes go inside the sums over points and groups. -/
theorem sum_points (A : ℕ → Fin NK → Fin 16 → Fin 512 → ℕ) :
    ∑ r, ∑ l, ∑ p ∈ Finset.range 16, ∑ k, A p k r l = ∑ p ∈ Finset.range 16, ∑ k, ∑ r, ∑ l, A p k r l := by
  have h : ∀ r, ∑ l, ∑ p ∈ Finset.range 16, ∑ k, A p k r l = ∑ p ∈ Finset.range 16, ∑ k, ∑ l, A p k r l := fun r => by
    rw [Finset.sum_comm]
    exact Finset.sum_congr rfl fun p _ => Finset.sum_comm
  rw [Finset.sum_congr rfl fun r _ => h r, Finset.sum_comm]
  exact Finset.sum_congr rfl fun p _ => Finset.sum_comm

variable (m : (ℓ : Loc nD τ sig) → Buf (Elt Ideal) ℓ) (c : Dev nD)

/-- The kernel counts the pixels that count. -/
theorem total_eq (hT : ∀ j, (argT m c j).toNat < 21) (q : Fin 3) (cl : Fin NC) :
    total m c q cl = tally (argX m c) (fun j => (argT m c j).toNat) q cl.val := by
  have e : ∀ (b : Fin 8) (R l : Fin 512), bit (pixel (argX m c) (argT m c) q cl b R l)
      = if counts q cl.val (pred fun k => argX m c (ix4 b k R l)) (argT m c (ix3 b R l)).toNat then 1 else 0 := fun b R l => by
    have h := word_eq_iff (argT m c (ix3 b R l)) (pred fun k => argX m c (ix4 b k R l)) cl.val (pred_lt _) cl.isLt (hT _)
    unfold pixel
    rw [counts_congr q h.1 h.2]
  unfold total seen tally
  simp only [e]
  rw [← sum_lines fun b R => ∑ l : Fin 512, if counts q cl.val (pred fun k => argX m c (ix4 b k R l)) (argT m c (ix3 b R l)).toNat then 1 else 0]
  exact sum_points _

/-- The kernel's result is the score of the counts. -/
theorem result_eq (hT : ∀ j, (argT m c j).toNat < 21) (cl : Fin 21) :
    result m c (ix1 cl) = dice (tally (argX m c) (fun j => (argT m c j).toNat) 0 cl.val : EReal)
      (tally (argX m c) (fun j => (argT m c j).toNat) 1 cl.val : EReal) (tally (argX m c) (fun j => (argT m c j).toNat) 2 cl.val : EReal) := by
  rw [← total_eq m c hT 0 cl, ← total_eq m c hT 1 cl, ← total_eq m c hT 2 cl]
  rfl

end Cert.KernelIdeal.Val
-- ==== Proof.RefPixel.lean ====
/- The reference's choice of a class at one pixel: the fold over the classes is the first class with the greatest score. -/
module

public import proofs.«01_k».proof.Proof.RefRun
public import proofs.«01_k».proof.Proof.Pixel
public import Idealize.ShloMosaic.PureOps.Ideal.Laws
public import Idealize.ShloMosaic.Lib.Pointwise.Reduce
public import Idealize.ShloMosaic.Lib.ValueIdxCore
public import Idealize.ShloMosaic.Lib.StableHlo.Predicate

@[expose] public section

noncomputable section

namespace Cert.ReferenceIdeal.Val

open Idealize.ShloMosaic hiding ix1 ix2 ix3 ix4
open Idealize.ShloMosaic.ValueIdx
open Cert.ReferenceIdeal.Gen Cert.ReferenceIdeal Cert.Dice

/-- The pattern of minus infinity denotes the least value. -/
theorem lowest : Ideal.ofBits .f32 0xFF800000#32 = ⊥ := by
  simp [Ideal.ofBits, Ideal.ieee]

/-- One step of the fold: a later class replaces the best so far where its score is greater. -/
theorem step_eq (a b : EReal) (i j : ℕ) (hij : i ≤ j) (hj : j < 21) :
    reducer_argmax_f32_i32 (F := Ideal) (a, BitVec.ofNat 32 i) (b, BitVec.ofNat 32 j)
      = if a < b then (b, BitVec.ofNat 32 j) else (a, BitVec.ofNat 32 i) := by
  have hs : IntOp.cmpi .slt (BitVec.ofNat 32 i) (BitVec.ofNat 32 j) = BitVec.ofBool (decide (i < j)) := by
    unfold IntOp.cmpi
    refine congrArg BitVec.ofBool ?_
    rw [BitVec.slt_eq_decide, StableHlo.Predicate.toInt_ofNat_small i (by omega), StableHlo.Predicate.toInt_ofNat_small j (by omega)]
    exact decide_eq_decide.2 Int.ofNat_lt
  unfold reducer_argmax_f32_i32
  simp only [Ideal.cmpf_def, Ideal.cmp, hs]
  rcases lt_trichotomy a b with h | h | h
  · simp [h, h.ne, h.not_gt, Scalar.select, IntOp.ori, IntOp.andi]
  · subst h
    rcases hij.lt_or_eq with hlt | rfl
    · simp [hlt, Scalar.select, IntOp.ori, IntOp.andi]
    · simp [Scalar.select, IntOp.ori, IntOp.andi]
  · simp [h, h.not_gt, h.ne', Scalar.select, IntOp.ori, IntOp.andi]

/-- Folding over the first classes gives the best score among them and the first class that has it. -/
theorem fold_top (s : Fin 21 → EReal) (n : ℕ) (h : n < 21) :
    ((List.finRange (n + 1)).map fun k : Fin (n + 1) => (s ⟨k.val, lt_of_lt_of_le k.isLt h⟩, BitVec.ofNat 32 k.val)).foldl
        (reducer_argmax_f32_i32 (F := Ideal)) ((⊥ : EReal), 0#32)
      = ((top s n h).1, BitVec.ofNat 32 (top s n h).2) := by
  induction n with
  | zero =>
    show reducer_argmax_f32_i32 (F := Ideal) (⊥, BitVec.ofNat 32 0) (s ⟨0, h⟩, BitVec.ofNat 32 0) = _
    rw [step_eq _ _ 0 0 le_rfl (by decide)]
    show _ = (s ⟨0, h⟩, BitVec.ofNat 32 0)
    split
    · rfl
    · next hn => rw [le_bot_iff.1 (not_lt.1 hn)]
  | succ n ih =>
    rw [List.finRange_succ_last, List.map_append, List.foldl_append, List.map_map]
    have ih' := ih (Nat.lt_of_succ_lt h)
    simp only [Function.comp_def, Fin.val_castSucc] at ih' ⊢
    rw [ih']
    show reducer_argmax_f32_i32 (F := Ideal) _ (s ⟨n + 1, h⟩, BitVec.ofNat 32 (n + 1)) = _
    rw [step_eq _ _ _ _ ((top_le s n _).trans (Nat.le_succ n)) h, top]
    split <;> rfl

/-- The places of an array of rank four that reduce along the second axis to one place, in order. -/
theorem fiber_places {n0 n1 n2 n3 : ℕ} (h : (⟨4, ![n0, n1, n2, n3]⟩ : Shape).ReducesTo [1] ⟨3, ![n0, n2, n3]⟩) (b : Fin n0) (R : Fin n2)
    (l : Fin n3) :
    ((List.finRange (⟨4, ![n0, n1, n2, n3]⟩ : Shape).numel).filter fun n =>
        h.drop ((⟨4, ![n0, n1, n2, n3]⟩ : Shape).rowMajor.symm n) = ix3 b R l)
      = (List.finRange n1).map fun k => (⟨4, ![n0, n1, n2, n3]⟩ : Shape).rowMajor (ix4 b k R l) := by
  refine List.Pairwise.eq_of_mem_iff (r := (· < ·)) ((List.sortedLT_finRange _).pairwise.filter _) ?_ fun n => ?_
  · refine List.pairwise_map.2 ((List.sortedLT_finRange n1).pairwise.imp fun {i j} hij => ?_)
    rw [Fin.lt_def, Shape.rowMajor_val_four, Shape.rowMajor_val_four]
    have hij' : i.val + 1 ≤ j.val := hij
    show ((b.val * n1 + i.val) * n2 + R.val) * n3 + l.val < ((b.val * n1 + j.val) * n2 + R.val) * n3 + l.val
    have h1 : (b.val * n1 + i.val) * n2 + n2 ≤ (b.val * n1 + j.val) * n2 := by
      rw [← Nat.succ_mul]; exact Nat.mul_le_mul_right _ (by omega)
    have h2 : (b.val * n1 + i.val) * n2 + R.val < (b.val * n1 + j.val) * n2 + R.val := by
      have := R.isLt; omega
    have h3 := Nat.mul_lt_mul_of_pos_right h2 (lt_of_le_of_lt (Nat.zero_le _) l.isLt)
    omega
  · rw [List.mem_filter, List.mem_map, decide_eq_true_iff, Shape.ReducesTo.fiber_r4_a1]
    constructor
    · rintro ⟨-, k, hk⟩
      exact ⟨k, List.mem_finRange k, ((Equiv.symm_apply_eq _).1 hk.symm).symm⟩
    · rintro ⟨k, -, rfl⟩
      exact ⟨List.mem_finRange _, k, (Equiv.symm_apply_apply _ _).symm⟩

/-- The scores of one pixel stand in the order of their classes. -/
theorem fiber_eq {n0 n1 n2 n3 : ℕ} (h : (⟨4, ![n0, n1, n2, n3]⟩ : Shape).ReducesTo [1] ⟨3, ![n0, n2, n3]⟩)
    (X : (⟨4, ![n0, n1, n2, n3]⟩ : Shape).Idx → EReal) (b : Fin n0) (R : Fin n2) (l : Fin n3) :
    Host.argReduceFiber X (iotaInDim ⟨4, ![n0, n1, n2, n3]⟩ 32 1) h (ix3 b R l)
      = (List.finRange n1).map fun k => (X (ix4 b k R l), BitVec.ofNat 32 k.val) := by
  unfold Host.argReduceFiber
  rw [fiber_places, List.map_map]
  refine List.map_congr_left fun k _ => ?_
  simp only [Function.comp_def, Equiv.symm_apply_apply]
  rfl

/-- Folding over all classes gives the first class with the greatest score. -/
theorem fold_pred (s : Fin 21 → EReal) :
    ((List.finRange 21).map fun k => (s k, BitVec.ofNat 32 k.val)).foldl (reducer_argmax_f32_i32 (F := Ideal)) ((⊥ : EReal), 0#32)
      = ((top s 20 (by decide)).1, BitVec.ofNat 32 (pred s)) :=
  fold_top s 20 (by decide)

/-- The arg-max along the second axis, at one place, is the first class with the greatest score. -/
theorem argmax_apply {n0 n2 n3 : ℕ} (h : (⟨4, ![n0, 21, n2, n3]⟩ : Shape).ReducesTo [1] ⟨3, ![n0, n2, n3]⟩)
    (X : FVec Ideal ⟨4, ![n0, 21, n2, n3]⟩ .f32) (b : Fin n0) (R : Fin n2) (l : Fin n3) :
    (Host.argReduce (reducer_argmax_f32_i32 (F := Ideal)) X (iotaInDim ⟨4, ![n0, 21, n2, n3]⟩ 32 1)
        (constant (F := Ideal) S_ .f32 0xFF800000#32) (constantI S_ 32 0#32) h h_S_ (ix3 b R l)).2
      = BitVec.ofNat 32 (pred fun c => X (ix4 b c R l)) := by
  have e : (constant (F := Ideal) S_ .f32 0xFF800000#32 (Shape.Idx.first h_S_), constantI S_ 32 0#32 (Shape.Idx.first h_S_))
      = ((⊥ : EReal), 0#32) := Prod.ext lowest rfl
  rw [Ideal.argReduce_eq_reduce2, Host.reduce2_eq_foldl_fiber, fiber_eq h X b R l, e, fold_pred fun c => X (ix4 b c R l)]

/-- The picked classes, written out. -/
theorem picked_eq (X : FVec Ideal S8x21x512x512 .f32) : picked X = fun j =>
    (Host.argReduce reducer_argmax_f32_i32 X (iotaInDim S8x21x512x512 32 1) (constant (F := Ideal) S_ .f32 0xFF800000#32) (constantI S_ 32 0#32)
      reducesTo_S8x21x512x512_S8x512x512_d1 h_S_ j).2 := rfl

/-- The reference picks the first class with the greatest score. -/
theorem picked_apply (X : FVec Ideal S8x21x512x512 .f32) (b : Fin 8) (R l : Fin 512) :
    picked X (ix3 b R l) = BitVec.ofNat 32 (pred fun c => X (ix4 b c R l)) := by
  rw [picked_eq]
  exact argmax_apply reducesTo_S8x21x512x512_S8x512x512_d1 X b R l

end Cert.ReferenceIdeal.Val
-- ==== Proof.RefCount.lean ====
/- The reference's histograms: each bin holds how often its value occurs. -/
module

public import proofs.«01_k».proof.Proof.RefRun
public import Idealize.ShloMosaic.PureOps.Ideal.Laws
public import Idealize.ShloMosaic.Lib.Routing.OpsPair
public import Idealize.ShloMosaic.Lib.Affine

@[expose] public section

noncomputable section

namespace Cert.ReferenceIdeal.Val

open Idealize.ShloMosaic
open Idealize.ShloMosaic.ValueIdx
open Cert.ReferenceIdeal.Gen Cert.ReferenceIdeal

/-- Adding one at some steps of a fold adds their number. -/
theorem foldl_ones {ι : Type} (hit : ι → Prop) [DecidablePred hit] (l : List ι) (z : ℕ) :
    l.foldl (fun a n => if hit n then IntOp.addi a 1#32 else a) (BitVec.ofNat 32 z)
      = BitVec.ofNat 32 (z + (l.map fun n => if hit n then 1 else 0).sum) := by
  induction l generalizing z with
  | nil => rfl
  | cons n l ih =>
    have e : (if hit n then IntOp.addi (BitVec.ofNat 32 z) 1#32 else BitVec.ofNat 32 z) = BitVec.ofNat 32 (z + if hit n then 1 else 0) := by
      split
      · exact BitVec.ofNat_add_ofNat z 1
      · rfl
    rw [List.foldl_cons, e, ih, List.map_cons, List.sum_cons, Nat.add_assoc]

/-- A word lands in the bin it names. -/
theorem lands {M N : ℕ} (d : ScatterDims ⟨1, ![N]⟩ ⟨2, ![M, 1]⟩ ⟨1, ![M]⟩) (hw : d.insertedWindowDims = [0])
    (ho : d.scatterDimsToOperandDims = [0]) (hv : d.indexVectorDim = 1) (idx : IVec ⟨2, ![M, 1]⟩ 32) (k : Fin M) (v : Fin N) :
    d.resultIdx? (ix1 k) idx = some (ix1 v) ↔ (idx (ix2 k (0 : Fin 1))).toInt = (v.val : ℤ) := by
  rw [Routing.resultIdx?_ix1]
  have hwin : d.window (ix1 k) 0 = 0 := by
    refine dif_neg fun hm => ?_
    have := of_decide_eq_true (List.mem_filter.1 hm).2
    rw [hw] at this
    exact this (List.mem_cons_self ..)
  have hm : (0 : Fin 1) ∈ d.scatterDimsToOperandDims := ho ▸ List.mem_cons_self ..
  have hst : d.start (ix1 k) idx 0 = (idx (ix2 k (0 : Fin 1))).toInt := by
    refine (dif_pos hm).trans (congrArg (fun i => (idx i).toInt) ?_)
    funext c
    match c with
    | ⟨0, _⟩ =>
      refine Fin.ext ((congrArg Fin.val (dif_neg fun e => Nat.zero_ne_one (e.trans hv))).trans ?_)
      have all : ∀ y : Fin 1, (ix1 k y).val = k.val := fun y => congrArg (fun z => (ix1 k z).val) (Subsingleton.elim y 0)
      exact all _
    | ⟨1, _⟩ => exact Subsingleton.elim (α := Fin 1) _ _
  rw [hwin, hst, Nat.cast_zero, add_zero]

/-- A value between zero and twenty-one is left as it is. -/
theorem keep (n : ℕ) (hn : n ≤ 21) :
    IntOp.maxsi 0#32 (IntOp.minsi 21#32 (IntOp.maxsi 0#32 (BitVec.ofNat 32 n))) = BitVec.ofNat 32 n
      ∧ IntOp.cmpi .slt (BitVec.ofNat 32 n) 0#32 = 0#1 := by
  interval_cases n <;> decide

/-- An array of one column holds the array it is made of. -/
theorem broadcast_column {α : Type} {M : ℕ} (hM : M ≠ 1) (h : (⟨1, ![M]⟩ : Shape).BroadcastsInDim ⟨2, ![M, 1]⟩ ![0])
    (x : (⟨1, ![M]⟩ : Shape).Idx → α) (k : Fin M) : broadcastInDim ⟨2, ![M, 1]⟩ ![0] h x (ix2 k (0 : Fin 1)) = x (ix1 k) := by
  refine congrArg x (funext fun a => ?_)
  match a with
  | ⟨0, _⟩ => exact (dif_neg hM).trans rfl

/-- A bin holds how often its value occurs in the plane. -/
theorem bins_apply (x : IVec S8x512x512 32) (f : S8x512x512.Idx → ℕ) (hx : ∀ j, x j = BitVec.ofNat 32 (f j)) (hf : ∀ j, f j ≤ 21)
    (v : Fin 22) : bins x (ix1 v) = BitVec.ofNat 32 (∑ j, if f j = v.val then 1 else 0) := by
  have hc : ∀ n : S2097152.Idx, clipped x n = BitVec.ofNat 32 (f (Shape.reshapeEquiv shapeCasts_S8x512x512_S2097152 n)) := fun n =>
    (congrArg (fun w => IntOp.maxsi 0#32 (IntOp.minsi 21#32 (IntOp.maxsi 0#32 w))) (hx _)).trans (keep _ (hf _)).1
  have hidx : ∀ k : Fin 2097152, broadcastInDim S2097152x1 ![0] bcast_S2097152_S2097152x1_0
      (select (cmpi .slt (clipped x) (flat 0#32)) (addi (clipped x) (flat 22#32)) (clipped x)) (ix2 k (0 : Fin 1))
      = BitVec.ofNat 32 (f (Shape.reshapeEquiv shapeCasts_S8x512x512_S2097152 (ix1 k))) := by
    intro k
    rw [broadcast_column (by decide)]
    show Scalar.select (IntOp.cmpi .slt (clipped x (ix1 k)) 0#32) _ (clipped x (ix1 k)) = _
    rw [hc, (keep _ (hf _)).2]
    rfl
  have hland : ∀ n : S2097152.Idx, scatter_S22_S2097152x1_S2097152_n_0_0_1.resultIdx? n (broadcastInDim S2097152x1 ![0] bcast_S2097152_S2097152x1_0
      (select (cmpi .slt (clipped x) (flat 0#32)) (addi (clipped x) (flat 22#32)) (clipped x))) = some (ix1 v)
      ↔ f (Shape.reshapeEquiv shapeCasts_S8x512x512_S2097152 n) = v.val := by
    intro n
    obtain ⟨k, rfl⟩ : ∃ k : Fin 2097152, n = ix1 k := ⟨n 0, ValueIdx.eq_ix1 n⟩
    refine (lands _ rfl rfl rfl _ k v).trans ?_
    rw [hidx, StableHlo.Predicate.toInt_ofNat_small _ (lt_of_le_of_lt (hf _) (by decide))]
    exact Nat.cast_inj
  unfold bins
  rw [Routing.scatter_at]
  simp only [hland]
  refine (foldl_ones (fun n => f (Shape.reshapeEquiv shapeCasts_S8x512x512_S2097152 (S2097152.rowMajor.symm n)) = v.val) _ 0).trans ?_
  rw [Nat.zero_add, ← Fin.sum_univ_def]
  refine congrArg (BitVec.ofNat 32) ?_
  rw [Equiv.sum_comp S2097152.rowMajor.symm fun n => if f (Shape.reshapeEquiv shapeCasts_S8x512x512_S2097152 n) = v.val then 1 else 0]
  exact Equiv.sum_comp (Shape.reshapeEquiv shapeCasts_S8x512x512_S2097152) fun j => if f j = v.val then 1 else 0

end Cert.ReferenceIdeal.Val
-- ==== Proof.RefValue.lean ====
/- The reference's result in numbers: where every label is a class number, its three histograms are the three counts. -/
module

public import proofs.«01_k».proof.Proof.RefPixel
public import proofs.«01_k».proof.Proof.RefCount
public import proofs.«01_k».proof.Proof.Tally
public import Idealize.ShloMosaic.Lib.IdealHost
public import Idealize.ShloMosaic.Lib.Pointwise.Index

@[expose] public section

noncomputable section

namespace Cert.ReferenceIdeal.Val

open Idealize.ShloMosaic hiding ix1 ix2 ix3 ix4
open Idealize.ShloMosaic.ValueIdx
open Cert.ReferenceIdeal.Gen Cert.ReferenceIdeal Cert.Dice

/-- The bins from the second on. -/
theorem tail_apply (y : IVec S22 32) (cl : Fin 21) :
    extractStridedSlice S21 ![1] y slices_S22_S21_1 (ix1 cl) = y (ix1 (⟨cl.val + 1, Nat.succ_lt_succ cl.isLt⟩ : Fin 22)) := by
  refine congrArg y (funext fun a => Fin.ext ?_)
  fin_cases a
  exact Nat.add_comm 1 cl.val

/-- A word read as a float, at a place. -/
theorem sitofp_apply {s : Shape} (y : IVec s 32) (i : s.Idx) : (sitofp .f32 y : FVec Ideal s .f32) i = (((y i).toInt : ℝ) : EReal) := rfl

/-- A count below 2³¹ held in a word is read back exactly. -/
theorem word_float (n : ℕ) (hn : n < 2 ^ 31) : (((BitVec.ofNat 32 n).toInt : ℝ) : EReal) = (n : EReal) := by
  have e : (BitVec.ofNat 32 n).toInt = (n : ℤ) := StableHlo.Predicate.toInt_ofNat_small n hn
  rw [e]
  norm_cast

/-- A histogram at a class holds how often the class, counted from one, occurs. -/
theorem hist_apply (x : IVec S8x512x512 32) (f : S8x512x512.Idx → ℕ) (hx : ∀ j, x j = BitVec.ofNat 32 (f j)) (hf : ∀ j, f j ≤ 21)
    (cl : Fin 21) (n : ℕ) (hn : n < 2 ^ 31) (e : ∑ j, (if f j = cl.val + 1 then 1 else 0) = n) : hist x (ix1 cl) = (n : EReal) := by
  have h : bins x (ix1 (⟨cl.val + 1, Nat.succ_lt_succ cl.isLt⟩ : Fin 22)) = BitVec.ofNat 32 n :=
    (bins_apply x f hx hf _).trans (congrArg (BitVec.ofNat 32) e)
  have ht := (tail_apply (bins x) cl).trans h
  refine (sitofp_apply _ _).trans ?_
  rw [ht]
  exact word_float n hn

/-- A class counted from one, kept where a test holds. -/
theorem kept (n : ℕ) (b : BitVec 1) : IntOp.muli (BitVec.ofNat 32 n) (b.setWidth 32) = BitVec.ofNat 32 (if b = 1#1 then n else 0) := by
  have hb : b = 0#1 ∨ b = 1#1 := by revert b; decide
  rcases hb with rfl | rfl
  · simp [IntOp.muli]
  · simp [IntOp.muli]

variable (X : FVec Ideal S8x21x512x512 .f32) (T : IVec S8x512x512 32) (hT : ∀ j, (T j).toNat < 21)

include hT

/-- A label counted from one. -/
theorem labels_apply (j : S8x512x512.Idx) : labels T j = BitVec.ofNat 32 ((T j).toNat + 1) := by
  show T j + 1#32 = _
  rw [BitVec.ofNat_add, BitVec.ofNat_toNat, BitVec.setWidth_eq]

/-- A picked class counted from one; no label loses it, since every label counted from one is positive. -/
theorem picks_apply (b : Fin 8) (R l : Fin 512) :
    picks X T (ix3 b R l) = BitVec.ofNat 32 ((pred fun c => X (ix4 b c R l)) + 1) := by
  show IntOp.muli (picked X (ix3 b R l) + 1#32) ((IntOp.cmpi .sgt (labels T (ix3 b R l)) 0#32).setWidth 32) = _
  have hs : IntOp.cmpi .sgt (labels T (ix3 b R l)) 0#32 = 1#1 := IntOp.cmpi_sgt.2 (by
    rw [labels_apply T hT, StableHlo.Predicate.toInt_ofNat_small ((T (ix3 b R l)).toNat + 1) (by have := hT (ix3 b R l); omega)]
    show (0 : ℤ) < _
    omega)
  rw [hs, picked_apply, ← BitVec.ofNat_add, kept, if_pos rfl]

/-- A picked class where it is the label, counted from one. -/
theorem hits_apply (b : Fin 8) (R l : Fin 512) :
    hits X T (ix3 b R l) = BitVec.ofNat 32
      (if (pred fun c => X (ix4 b c R l)) = (T (ix3 b R l)).toNat then (pred fun c => X (ix4 b c R l)) + 1 else 0) := by
  show IntOp.muli (picks X T (ix3 b R l)) ((IntOp.cmpi .eq (picks X T (ix3 b R l)) (labels T (ix3 b R l))).setWidth 32) = _
  rw [picks_apply X T hT, labels_apply T hT, kept]
  refine congrArg (BitVec.ofNat 32) (if_congr ?_ rfl rfl)
  have h1 := pred_lt fun c => X (ix4 b c R l)
  have h2 := hT (ix3 b R l)
  rw [IntOp.cmpi_eq, ← BitVec.toNat_inj, BitVec.toNat_ofNat, BitVec.toNat_ofNat]
  omega

/-- The three planes, by what they count. -/
def plane (q : Fin 3) : IVec S8x512x512 32 := match q with
  | 0 => picks X T
  | 1 => labels T
  | 2 => hits X T

omit hT in
/-- What a plane holds at a pixel of predicted class `p` and label `t`. -/
def held (q : Fin 3) (p t : ℕ) : ℕ := match q with
  | 0 => p + 1
  | 1 => t + 1
  | 2 => if p = t then p + 1 else 0

omit hT in
/-- It is a class counted from one exactly where the pixel counts towards the class. -/
theorem held_eq_iff (q : Fin 3) (p t cl : ℕ) : held q p t = cl + 1 ↔ counts q cl p t := by
  fin_cases q
  · simp [held, counts]
  · simp [held, counts]
  · simp only [held, counts, Bool.and_eq_true, decide_eq_true_eq]
    split <;> omega

omit hT in
/-- It is at most twenty-one. -/
theorem held_le (q : Fin 3) (p t : ℕ) (hp : p < 21) (ht : t < 21) : held q p t ≤ 21 := by
  fin_cases q
  · exact hp
  · exact ht
  · simp only [held]
    split <;> omega

/-- What a plane holds at a pixel. -/
theorem plane_apply (q : Fin 3) (b : Fin 8) (R l : Fin 512) :
    plane X T q (ix3 b R l) = BitVec.ofNat 32 (held q (pred fun c => X (ix4 b c R l)) (T (ix3 b R l)).toNat) := by
  fin_cases q
  · exact picks_apply X T hT b R l
  · exact labels_apply T hT _
  · exact hits_apply X T hT b R l

/-- The histogram of a plane is the tally of what it counts. -/
theorem hist_plane (q : Fin 3) (cl : Fin 21) : hist (plane X T q) (ix1 cl) = (tally X (fun j => (T j).toNat) q cl.val : EReal) := by
  have at3 : ∀ j : S8x512x512.Idx, j = ix3 (j 0) (j 1) (j 2) := ValueIdx.eq_ix3
  refine hist_apply _ (fun j => held q (pred fun c => X (ix4 (j 0) c (j 1) (j 2))) (T j).toNat) (fun j => ?_)
    (fun j => held_le q _ _ (pred_lt _) (hT j)) cl _ (lt_of_le_of_lt (tally_le _ _ _ _) (by decide)) ?_
  · obtain ⟨b, R, l, rfl⟩ : ∃ (b : Fin 8) (R l : Fin 512), j = ix3 b R l := ⟨j 0, j 1, j 2, at3 j⟩
    exact plane_apply X T hT q b R l
  · refine (sum_idx3 _).trans ?_
    unfold tally
    refine Finset.sum_congr rfl fun b _ => Finset.sum_congr rfl fun R _ => Finset.sum_congr rfl fun l _ => ?_
    exact if_congr (held_eq_iff q _ _ _) rfl rfl

/-- The reference's result is the score of the counts. -/
theorem value_apply (cl : Fin 21) :
    value X T (ix1 cl) = dice (tally X (fun j => (T j).toNat) 0 cl.val : EReal) (tally X (fun j => (T j).toNat) 1 cl.val : EReal)
      (tally X (fun j => (T j).toNat) 2 cl.val : EReal) := by
  have one : ∀ i : EReal, Ideal.ofBits .f32 0x3F800000#32 * i = i := fun i => by rw [Ideal.ofBits_one_f32, one_mul]
  have e : ∀ p l i : FVec Ideal S21 .f32, scored (ratio p l i) (ix1 cl)
      = Ideal.div (Ideal.ofBits .f32 0x40000000#32
            * Ideal.div (Ideal.ofBits .f32 0x3F800000#32 * i (ix1 cl)) (Ideal.ofBits .f32 0x25800000#32 + (p (ix1 cl) + l (ix1 cl) - i (ix1 cl))))
          (Ideal.div (Ideal.ofBits .f32 0x3F800000#32 * i (ix1 cl)) (Ideal.ofBits .f32 0x25800000#32 + (p (ix1 cl) + l (ix1 cl) - i (ix1 cl)))
            + Ideal.ofBits .f32 0x3F800000#32) := fun _ _ _ => rfl
  have h0 := hist_plane X T hT 0 cl
  have h1 := hist_plane X T hT 1 cl
  have h2 := hist_plane X T hT 2 cl
  simp only [plane] at h0 h1 h2
  unfold value
  rw [e, one, h0, h1, h2]
  rfl

end Cert.ReferenceIdeal.Val
-- ==== Proof.Agree.lean ====
/- The kernel's result and the reference's are the same scores of the same counts. -/
module

public import proofs.«01_k».proof.Proof.KernelTally
public import proofs.«01_k».proof.Proof.RefValue

@[expose] public section

noncomputable section

namespace Cert.Dice

open Idealize.ShloMosaic hiding ix1 ix2 ix3 ix4
open Idealize.ShloMosaic.TcCoe Idealize.ShloMosaic.ValueIdx
open Cert.KernelIdeal.Gen Cert.KernelIdeal

variable (m : (ℓ : Loc nD τ sig) → Buf (Elt Ideal) ℓ) (c : Dev nD)

/-- Where every label is a class number, the reference's term of the kernel's arguments is the kernel's result. -/
theorem agree (hT : ∀ j, (Val.argT m c j).toNat < 21) :
    Cert.ReferenceIdeal.Val.value (Val.argX m c) (Val.argT m c) = Val.result m c := by
  funext i
  obtain ⟨cl, rfl⟩ : ∃ cl : Fin 21, i = ix1 cl := ⟨i 0, ValueIdx.eq_ix1 i⟩
  exact (Cert.ReferenceIdeal.Val.value_apply (Val.argX m c) (Val.argT m c) hT cl).trans (Val.result_eq m c hT cl).symm

end Cert.Dice
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.KernelRun
public import proofs.«01_k».proof.Proof.RefRun
public import proofs.«01_k».proof.Proof.InRange
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, its arguments end unchanged and every semaphore counter ends at zero. -/
theorem reference_frame : Cert.quiescent_ReferenceIdeal := fun m g _ =>
  (θ_run Cert.ReferenceIdeal.defs _ _).mono (fun _ h => ⟨fun c => (h.1 c).2, h.2⟩) (Cert.ReferenceIdeal.Val.run m g)

/-- Where every label is a class number, the kernel and the reference end with equal results. -/
theorem results_agree : Cert.algebraic_KernelIdeal_ReferenceIdeal_pre_in_range := fun m g m' g' hpre hargs => by
  refine ⟨fun c => Cert.KernelIdeal.Val.result m c, Cert.KernelIdeal.Val.run m g,
    (θ_run Cert.ReferenceIdeal.defs _ _).mono (fun _ h c => ⟨(h.1 c).1.trans ?_, (h.1 c).2⟩) (Cert.ReferenceIdeal.Val.run m' g')⟩
  refine (congrArg₂ Cert.ReferenceIdeal.Val.value (hargs c).1 (hargs c).2).trans ?_
  exact Cert.Dice.agree m c fun j => Cert.Dice.label_lt _ _ (hpre c) j

theorem claim : Cert.Claim := ⟨Cert.Kernel.Gen.facts, Cert.KernelIdeal.Gen.facts, Cert.ReferenceIdeal.Gen.facts, Cert.Pre_in_range.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  results_agree⟩

end Cert.Proof

end
